-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tables [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tables [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tables : Cert.Pre_tables.Facts),
    quiescent_Kernel (hKernel := hKernel)
    ∧ quiescent_KernelIdeal (hKernelIdeal := hKernelIdeal)
    ∧ quiescent_KernelIdeal_pre_tables (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ preserves_Kernel_KernelIdeal
    ∧ algebraic_KernelIdeal_ReferenceIdeal_pre_tables (hKernelIdeal := hKernelIdeal) (hReferenceIdeal := hReferenceIdeal) (hPre_tables := hPre_tables)
-- ==== Pre_tables.lean ====
abbrev S4x256 : Shape := ⟨2, ![4, 256]⟩
abbrev S514x131072 : Shape := ⟨2, ![514, 131072]⟩
abbrev S131072x256 : Shape := ⟨2, ![131072, 256]⟩
abbrev S131072x2 : Shape := ⟨2, ![131072, 2]⟩
abbrev S_ : Shape := ⟨0, ![]⟩

class Facts : Prop where
  bcast_S_S514x131072 : S_.BroadcastsInDim S514x131072 (![] : Fin 0 → Fin S514x131072.rank)
  bcast_S_S131072x256 : S_.BroadcastsInDim S131072x256 (![] : Fin 0 → Fin S131072x256.rank)
  bcast_S_S131072x2 : S_.BroadcastsInDim S131072x2 (![] : Fin 0 → Fin S131072x2.rank)
  bcast_S_S4x256 : S_.BroadcastsInDim S4x256 (![] : Fin 0 → Fin S4x256.rank)

variable [Facts]

def fn_where {F : FTy → Type} [FloatOps F] (arg0 : IVec S131072x2 1) (arg1 : IVec S_ 32) (arg2 : IVec S_ 32) : IVec S131072x2 32 :=
  let v0 : IVec S131072x2 32 := broadcastInDim S131072x2 ![] bcast_S_S131072x2 arg1
  let v1 : IVec S131072x2 32 := broadcastInDim S131072x2 ![] bcast_S_S131072x2 arg2
  let v2 : IVec S131072x2 32 := select arg0 v0 v1
  v2

def fn_where_0 {F : FTy → Type} [FloatOps F] (arg0 : IVec S514x131072 1) (arg1 : FVec F S_ .f32) (arg2 : FVec F S_ .f32) : FVec F S514x131072 .f32 :=
  let v0 : FVec F S514x131072 .f32 := broadcastInDim S514x131072 ![] bcast_S_S514x131072 arg1
  let v1 : FVec F S514x131072 .f32 := broadcastInDim S514x131072 ![] bcast_S_S514x131072 arg2
  let v2 : FVec F S514x131072 .f32 := select arg0 v0 v1
  v2

def fn_where_1 {F : FTy → Type} [FloatOps F] (arg0 : IVec S131072x256 1) (arg1 : FVec F S_ .f32) (arg2 : FVec F S_ .f32) : FVec F S131072x256 .f32 :=
  let v0 : FVec F S131072x256 .f32 := broadcastInDim S131072x256 ![] bcast_S_S131072x256 arg1
  let v1 : FVec F S131072x256 .f32 := broadcastInDim S131072x256 ![] bcast_S_S131072x256 arg2
  let v2 : FVec F S131072x256 .f32 := select arg0 v0 v1
  v2

def fn_where_2 {F : FTy → Type} [FloatOps F] (arg0 : IVec S131072x2 1) (arg1 : FVec F S_ .f32) (arg2 : FVec F S_ .f32) : FVec F S131072x2 .f32 :=
  let v0 : FVec F S131072x2 .f32 := broadcastInDim S131072x2 ![] bcast_S_S131072x2 arg1
  let v1 : FVec F S131072x2 .f32 := broadcastInDim S131072x2 ![] bcast_S_S131072x2 arg2
  let v2 : FVec F S131072x2 .f32 := select arg0 v0 v1
  v2

def fn_part3 {F : FTy → Type} [FloatOps F] (main_arg1 : FVec F S4x256 .f32) (main_arg2 : FVec F S514x131072 .f32) (main_arg3 : FVec F S131072x256 .f32) (main_arg4 : FVec F S131072x2 .f32) (main_v18 : IVec S514x131072 1) (main_v33 : IVec S131072x256 1) (main_v50 : IVec S131072x2 1) (main_v51 : FVec F S4x256 .f32) (main_v52 : FVec F S4x256 .f32) : IVec S4x256 1 × IVec S4x256 1 × IVec S514x131072 1 × IVec S131072x256 1 × IVec S131072x2 1 :=
  let main_v53 : IVec S4x256 1 := cmpf .olt main_v51 main_v52
  let main_v54 : FVec F S4x256 .f32 := Host.absf main_arg1
  let main_cst_17 : FVec F S_ .f32 := constant S_ .f32 0x7F800000#32
  let main_v55 : FVec F S4x256 .f32 := broadcastInDim S4x256 ![] bcast_S_S4x256 main_cst_17
  let main_v56 : IVec S4x256 1 := cmpf .olt main_v54 main_v55
  let main_cst_18 : FVec F S_ .f32 := constant S_ .f32 0x3F800000#32
  let main_cst_19 : FVec F S_ .f32 := constant S_ .f32 0x00000000#32
  let main_v57 : FVec F S514x131072 .f32 := fn_where_0 (F := F) main_v18 main_cst_18 main_cst_19
  let main_v58 : FVec F S514x131072 .f32 := id main_v57
  let main_v59 : IVec S514x131072 1 := cmpf .oeq main_arg2 main_v58
  let main_cst_20 : FVec F S_ .f32 := constant S_ .f32 0x3F800000#32
  let main_cst_21 : FVec F S_ .f32 := constant S_ .f32 0x00000000#32
  let main_v60 : FVec F S131072x256 .f32 := fn_where_1 (F := F) main_v33 main_cst_20 main_cst_21
  let main_v61 : FVec F S131072x256 .f32 := id main_v60
  let main_v62 : IVec S131072x256 1 := cmpf .oeq main_arg3 main_v61
  let main_cst_22 : FVec F S_ .f32 := constant S_ .f32 0x3F800000#32
  let main_cst_23 : FVec F S_ .f32 := constant S_ .f32 0x00000000#32
  let main_v63 : FVec F S131072x2 .f32 := fn_where_2 (F := F) main_v50 main_cst_22 main_cst_23
  let main_v64 : FVec F S131072x2 .f32 := id main_v63
  let main_v65 : IVec S131072x2 1 := cmpf .oeq main_arg4 main_v64
  (main_v53, main_v56, main_v59, main_v62, main_v65)

def fn_part2 {F : FTy → Type} [FloatOps F] (main_arg0 : FVec F S4x256 .f32) (main_arg1 : FVec F S4x256 .f32) (main_arg2 : FVec F S514x131072 .f32) (main_arg3 : FVec F S131072x256 .f32) (main_arg4 : FVec F S131072x2 .f32) (main_v18 : IVec S514x131072 1) (main_v33 : IVec S131072x256 1) (main_v34 : IVec S131072x2 32) (main_v35 : IVec S131072x2 32) : IVec S4x256 1 × IVec S4x256 1 × IVec S514x131072 1 × IVec S131072x256 1 × IVec S131072x2 1 :=
  let main_v36 : IVec S131072x2 32 := Host.divsi main_v34 main_v35
  let main_c_11 : IVec S_ 32 := constantI S_ 32 512#32
  let main_v37 : IVec S131072x2 32 := broadcastInDim S131072x2 ![] bcast_S_S131072x2 main_c_11
  let main_v38 : IVec S131072x2 32 := Host.remsi main_v34 main_v37
  let main_c_12 : IVec S_ 32 := constantI S_ 32 2#32
  let main_v39 : IVec S131072x2 32 := broadcastInDim S131072x2 ![] bcast_S_S131072x2 main_c_12
  let main_v40 : IVec S131072x2 32 := Host.divsi main_v38 main_v39
  let main_c_13 : IVec S_ 32 := constantI S_ 32 2#32
  let main_v41 : IVec S131072x2 32 := broadcastInDim S131072x2 ![] bcast_S_S131072x2 main_c_13
  let main_v42 : IVec S131072x2 32 := Host.remsi main_v34 main_v41
  let main_v43 : IVec S131072x2 32 := iotaInDim S131072x2 32 1
  let main_v44 : IVec S131072x2 32 := addi main_v36 main_v40
  let main_v45 : IVec S131072x2 32 := addi main_v44 main_v42
  let main_c_14 : IVec S_ 32 := constantI S_ 32 256#32
  let main_v46 : IVec S131072x2 32 := broadcastInDim S131072x2 ![] bcast_S_S131072x2 main_c_14
  let main_v47 : IVec S131072x2 1 := cmpi .sge main_v45 main_v46
  let main_c_15 : IVec S_ 32 := constantI S_ 32 1#32
  let main_c_16 : IVec S_ 32 := constantI S_ 32 0#32
  let main_v48 : IVec S131072x2 32 := fn_where (F := F) main_v47 main_c_15 main_c_16
  let main_v49 : IVec S131072x2 32 := id main_v48
  let main_v50 : IVec S131072x2 1 := cmpi .eq main_v43 main_v49
  let main_v51 : FVec F S4x256 .f32 := Host.absf main_arg0
  let main_cst : FVec F S_ .f32 := constant S_ .f32 0x7F800000#32
  let main_v52 : FVec F S4x256 .f32 := broadcastInDim S4x256 ![] bcast_S_S4x256 main_cst
  fn_part3 (F := F) main_arg1 main_arg2 main_arg3 main_arg4 main_v18 main_v33 main_v50 main_v51 main_v52

def fn_part1 {F : FTy → Type} [FloatOps F] (main_arg0 : FVec F S4x256 .f32) (main_arg1 : FVec F S4x256 .f32) (main_arg2 : FVec F S514x131072 .f32) (main_arg3 : FVec F S131072x256 .f32) (main_arg4 : FVec F S131072x2 .f32) (main_v14 : IVec S514x131072 1) (main_v17 : IVec S514x131072 1) : IVec S4x256 1 × IVec S4x256 1 × IVec S514x131072 1 × IVec S131072x256 1 × IVec S131072x2 1 :=
  let main_v18 : IVec S514x131072 1 := ori main_v14 main_v17
  let main_v19 : IVec S131072x256 32 := iotaInDim S131072x256 32 0
  let main_c_5 : IVec S_ 32 := constantI S_ 32 512#32
  let main_v20 : IVec S131072x256 32 := broadcastInDim S131072x256 ![] bcast_S_S131072x256 main_c_5
  let main_v21 : IVec S131072x256 32 := Host.divsi main_v19 main_v20
  let main_c_6 : IVec S_ 32 := constantI S_ 32 512#32
  let main_v22 : IVec S131072x256 32 := broadcastInDim S131072x256 ![] bcast_S_S131072x256 main_c_6
  let main_v23 : IVec S131072x256 32 := Host.remsi main_v19 main_v22
  let main_c_7 : IVec S_ 32 := constantI S_ 32 2#32
  let main_v24 : IVec S131072x256 32 := broadcastInDim S131072x256 ![] bcast_S_S131072x256 main_c_7
  let main_v25 : IVec S131072x256 32 := Host.divsi main_v23 main_v24
  let main_c_8 : IVec S_ 32 := constantI S_ 32 2#32
  let main_v26 : IVec S131072x256 32 := broadcastInDim S131072x256 ![] bcast_S_S131072x256 main_c_8
  let main_v27 : IVec S131072x256 32 := Host.remsi main_v19 main_v26
  let main_v28 : IVec S131072x256 32 := iotaInDim S131072x256 32 1
  let main_v29 : IVec S131072x256 32 := addi main_v21 main_v25
  let main_v30 : IVec S131072x256 32 := addi main_v29 main_v27
  let main_c_9 : IVec S_ 32 := constantI S_ 32 255#32
  let main_v31 : IVec S131072x256 32 := broadcastInDim S131072x256 ![] bcast_S_S131072x256 main_c_9
  let main_v32 : IVec S131072x256 32 := andi main_v30 main_v31
  let main_v33 : IVec S131072x256 1 := cmpi .eq main_v28 main_v32
  let main_v34 : IVec S131072x2 32 := iotaInDim S131072x2 32 0
  let main_c_10 : IVec S_ 32 := constantI S_ 32 512#32
  let main_v35 : IVec S131072x2 32 := broadcastInDim S131072x2 ![] bcast_S_S131072x2 main_c_10
  fn_part2 (F := F) main_arg0 main_arg1 main_arg2 main_arg3 main_arg4 main_v18 main_v33 main_v34 main_v35

def fn {F : FTy → Type} [FloatOps F] (main_arg0 : FVec F S4x256 .f32) (main_arg1 : FVec F S4x256 .f32) (main_arg2 : FVec F S514x131072 .f32) (main_arg3 : FVec F S131072x256 .f32) (main_arg4 : FVec F S131072x2 .f32) : IVec S4x256 1 × IVec S4x256 1 × IVec S514x131072 1 × IVec S131072x256 1 × IVec S131072x2 1 :=
  let main_v0 : IVec S514x131072 32 := iotaInDim S514x131072 32 0
  let main_v1 : IVec S514x131072 32 := iotaInDim S514x131072 32 1
  let main_c : IVec S_ 32 := constantI S_ 32 512#32
  let main_v2 : IVec S514x131072 32 := broadcastInDim S514x131072 ![] bcast_S_S514x131072 main_c
  let main_v3 : IVec S514x131072 32 := Host.divsi main_v1 main_v2
  let main_c_0 : IVec S_ 32 := constantI S_ 32 512#32
  let main_v4 : IVec S514x131072 32 := broadcastInDim S514x131072 ![] bcast_S_S514x131072 main_c_0
  let main_v5 : IVec S514x131072 32 := Host.remsi main_v1 main_v4
  let main_c_1 : IVec S_ 32 := constantI S_ 32 2#32
  let main_v6 : IVec S514x131072 32 := broadcastInDim S514x131072 ![] bcast_S_S514x131072 main_c_1
  let main_v7 : IVec S514x131072 32 := Host.divsi main_v5 main_v6
  let main_c_2 : IVec S_ 32 := constantI S_ 32 2#32
  let main_v8 : IVec S514x131072 32 := broadcastInDim S514x131072 ![] bcast_S_S514x131072 main_c_2
  let main_v9 : IVec S514x131072 32 := Host.remsi main_v1 main_v8
  let main_v10 : IVec S514x131072 1 := cmpi .eq main_v0 main_v3
  let main_c_3 : IVec S_ 32 := constantI S_ 32 256#32
  let main_v11 : IVec S514x131072 32 := broadcastInDim S514x131072 ![] bcast_S_S514x131072 main_c_3
  let main_v12 : IVec S514x131072 32 := addi main_v11 main_v7
  let main_v13 : IVec S514x131072 1 := cmpi .eq main_v0 main_v12
  let main_v14 : IVec S514x131072 1 := ori main_v10 main_v13
  let main_c_4 : IVec S_ 32 := constantI S_ 32 512#32
  let main_v15 : IVec S514x131072 32 := broadcastInDim S514x131072 ![] bcast_S_S514x131072 main_c_4
  let main_v16 : IVec S514x131072 32 := addi main_v15 main_v9
  let main_v17 : IVec S514x131072 1 := cmpi .eq main_v0 main_v16
  fn_part1 (F := F) main_arg0 main_arg1 main_arg2 main_arg3 main_arg4 main_v14 main_v17
-- ==== Kernel.lean ====
abbrev S4x256 : Shape := ⟨2, ![4, 256]⟩
abbrev S514x131072 : Shape := ⟨2, ![514, 131072]⟩
abbrev S131072x256 : Shape := ⟨2, ![131072, 256]⟩
abbrev S131072x2 : Shape := ⟨2, ![131072, 2]⟩
abbrev S4 : Shape := ⟨1, ![4]⟩
abbrev S4x1 : Shape := ⟨2, ![4, 1]⟩
abbrev S4x1x256 : Shape := ⟨3, ![4, 1, 256]⟩
abbrev S4x255 : Shape := ⟨2, ![4, 255]⟩
abbrev S4x2 : Shape := ⟨2, ![4, 2]⟩
abbrev S4x254 : Shape := ⟨2, ![4, 254]⟩
abbrev S4x3 : Shape := ⟨2, ![4, 3]⟩
abbrev S4x253 : Shape := ⟨2, ![4, 253]⟩
abbrev S4x4 : Shape := ⟨2, ![4, 4]⟩
abbrev S4x252 : Shape := ⟨2, ![4, 252]⟩
abbrev S4x5 : Shape := ⟨2, ![4, 5]⟩
abbrev S4x251 : Shape := ⟨2, ![4, 251]⟩
abbrev S4x6 : Shape := ⟨2, ![4, 6]⟩
abbrev S4x250 : Shape := ⟨2, ![4, 250]⟩
abbrev S4x7 : Shape := ⟨2, ![4, 7]⟩
abbrev S4x249 : Shape := ⟨2, ![4, 249]⟩
abbrev S4x8x256 : Shape := ⟨3, ![4, 8, 256]⟩
abbrev S32x256 : Shape := ⟨2, ![32, 256]⟩
abbrev S4x8 : Shape := ⟨2, ![4, 8]⟩
abbrev S4x32 : Shape := ⟨2, ![4, 32]⟩
abbrev S128x32 : Shape := ⟨2, ![128, 32]⟩
abbrev S128x256 : Shape := ⟨2, ![128, 256]⟩
abbrev S32x4x256 : Shape := ⟨3, ![32, 4, 256]⟩
abbrev S1x4x256 : Shape := ⟨3, ![1, 4, 256]⟩
abbrev S4x248 : Shape := ⟨2, ![4, 248]⟩
abbrev S4x16 : Shape := ⟨2, ![4, 16]⟩
abbrev S4x240 : Shape := ⟨2, ![4, 240]⟩
abbrev S4x24 : Shape := ⟨2, ![4, 24]⟩
abbrev S4x232 : Shape := ⟨2, ![4, 232]⟩
abbrev S4x224 : Shape := ⟨2, ![4, 224]⟩
abbrev S4x40 : Shape := ⟨2, ![4, 40]⟩
abbrev S4x216 : Shape := ⟨2, ![4, 216]⟩
abbrev S4x48 : Shape := ⟨2, ![4, 48]⟩
abbrev S4x208 : Shape := ⟨2, ![4, 208]⟩
abbrev S4x56 : Shape := ⟨2, ![4, 56]⟩
abbrev S4x200 : Shape := ⟨2, ![4, 200]⟩
abbrev S4x64 : Shape := ⟨2, ![4, 64]⟩
abbrev S4x192 : Shape := ⟨2, ![4, 192]⟩
abbrev S4x72 : Shape := ⟨2, ![4, 72]⟩
abbrev S4x184 : Shape := ⟨2, ![4, 184]⟩
abbrev S4x80 : Shape := ⟨2, ![4, 80]⟩
abbrev S4x176 : Shape := ⟨2, ![4, 176]⟩
abbrev S4x88 : Shape := ⟨2, ![4, 88]⟩
abbrev S4x168 : Shape := ⟨2, ![4, 168]⟩
abbrev S4x96 : Shape := ⟨2, ![4, 96]⟩
abbrev S4x160 : Shape := ⟨2, ![4, 160]⟩
abbrev S4x104 : Shape := ⟨2, ![4, 104]⟩
abbrev S4x152 : Shape := ⟨2, ![4, 152]⟩
abbrev S4x112 : Shape := ⟨2, ![4, 112]⟩
abbrev S4x144 : Shape := ⟨2, ![4, 144]⟩
abbrev S4x120 : Shape := ⟨2, ![4, 120]⟩
abbrev S4x136 : Shape := ⟨2, ![4, 136]⟩
abbrev S4x128 : Shape := ⟨2, ![4, 128]⟩
abbrev S256x512 : Shape := ⟨2, ![256, 512]⟩
abbrev S4x512 : Shape := ⟨2, ![4, 512]⟩
abbrev S1x1 : Shape := ⟨2, ![1, 1]⟩
abbrev S1x256 : Shape := ⟨2, ![1, 256]⟩

abbrev nBuf : Space → Nat
  | .hbm => 6
  | .vmem => 3
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S514x131072, .f32⟩
  | .hbm, ⟨3, _⟩ => ⟨S131072x256, .f32⟩
  | .hbm, ⟨4, _⟩ => ⟨S131072x2, .f32⟩
  | .hbm, ⟨5, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256 : Shape := ⟨2, ![4, 256]⟩
abbrev S514x131072 : Shape := ⟨2, ![514, 131072]⟩
abbrev S131072x256 : Shape := ⟨2, ![131072, 256]⟩
abbrev S131072x2 : Shape := ⟨2, ![131072, 2]⟩
abbrev S_ : Shape := ⟨0, ![]⟩
abbrev S2 : Shape := ⟨1, ![2]⟩
abbrev S1 : Shape := ⟨1, ![1]⟩
abbrev S1x256 : Shape := ⟨2, ![1, 256]⟩
abbrev S256 : Shape := ⟨1, ![256]⟩
abbrev S514 : Shape := ⟨1, ![514]⟩
abbrev S131072 : Shape := ⟨1, ![131072]⟩

abbrev nBuf : Space → Nat
  | .hbm => 58
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S514x131072, .f32⟩
  | .hbm, ⟨3, _⟩ => ⟨S131072x256, .f32⟩
  | .hbm, ⟨4, _⟩ => ⟨S131072x2, .f32⟩
  | .hbm, ⟨5, _⟩ => ⟨S_, .f32⟩
  | .hbm, ⟨6, _⟩ => ⟨S2, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S2, .f32⟩
  | .hbm, ⟨11, _⟩ => ⟨S_, .f32⟩
  | .hbm, ⟨12, _⟩ => ⟨S4x256, .f32⟩
  | .hbm, ⟨13, _⟩ => ⟨S_, .i32⟩
  | .hbm, ⟨14, _⟩ => ⟨S4x256, .f32⟩
  | .hbm, ⟨15, _⟩ => ⟨S4x256, .f32⟩
  | .hbm, ⟨16, _⟩ => ⟨S514x131072, .f32⟩
  | .hbm, ⟨17, _⟩ => ⟨S131072x256, .f32⟩
  | .hbm, ⟨18, _⟩ => ⟨S131072x2, .f32⟩
  | .hbm, ⟨19, _⟩ => ⟨S_, .i32⟩
  | .hbm, ⟨20, _⟩ => ⟨S2, .f32⟩
  | .hbm, ⟨21, _⟩ => ⟨S4x256, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S1x256, .f32⟩
  | .hbm, ⟨26, _⟩ => ⟨S256, .f32⟩
  | .hbm, ⟨27, _⟩ => ⟨S_, .i32⟩
  | .hbm, ⟨28, _⟩ => ⟨S1x256, .f32⟩
  | .hbm, ⟨29, _⟩ => ⟨S256, .f32⟩
  | .hbm, ⟨30, _⟩ => ⟨S514, .f32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S131072, .f32⟩
  | .hbm, ⟨50, _⟩ => ⟨S131072, .f32⟩
  | .hbm, ⟨51, _⟩ => ⟨S256, .f32⟩
  | .hbm, ⟨52, _⟩ => ⟨S2, .f32⟩
  | .hbm, ⟨53, _⟩ => ⟨S1x256, .f32⟩
  | .hbm, ⟨54, _⟩ => ⟨S_, .i32⟩
  | .hbm, ⟨55, _⟩ => ⟨S4x256, .f32⟩
  | .hbm, ⟨56, _⟩ => ⟨S_, .i32⟩
  | .hbm, ⟨57, _⟩ => ⟨S_, .i32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_c_2 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_while0c_c_10 : Ref sig .tc := ⟨.hbm, 22, rfl⟩
abbrev main_while0c_v5 : Ref sig .tc := ⟨.hbm, 23, rfl⟩
abbrev main_while0b_call0_c : Ref sig .tc := ⟨.hbm, 24, rfl⟩
abbrev main_while0b_call0_v0 : Ref sig .tc := ⟨.hbm, 25, rfl⟩
abbrev main_while0b_v5 : Ref sig .tc := ⟨.hbm, 26, rfl⟩
abbrev main_while0b_call1_c : Ref sig .tc := ⟨.hbm, 27, rfl⟩
abbrev main_while0b_call1_v0 : Ref sig .tc := ⟨.hbm, 28, rfl⟩
abbrev main_while0b_v6 : Ref sig .tc := ⟨.hbm, 29, rfl⟩
abbrev main_while0b_v7 : Ref sig .tc := ⟨.hbm, 30, rfl⟩
abbrev main_while0b_v8 : Ref sig .tc := ⟨.hbm, 31, rfl⟩
abbrev main_while0b_cst_10 : Ref sig .tc := ⟨.hbm, 32, rfl⟩
abbrev main_while0b_v9 : Ref sig .tc := ⟨.hbm, 33, rfl⟩
abbrev main_while0b_v10 : Ref sig .tc := ⟨.hbm, 34, rfl⟩
abbrev main_while0b_cst_11 : Ref sig .tc := ⟨.hbm, 35, rfl⟩
abbrev main_while0b_v11 : Ref sig .tc := ⟨.hbm, 36, rfl⟩
abbrev main_while0b_v12 : Ref sig .tc := ⟨.hbm, 37, rfl⟩
abbrev main_while0b_cst_12 : Ref sig .tc := ⟨.hbm, 38, rfl⟩
abbrev main_while0b_v13 : Ref sig .tc := ⟨.hbm, 39, rfl⟩
abbrev main_while0b_cst_13 : Ref sig .tc := ⟨.hbm, 40, rfl⟩
abbrev main_while0b_v14 : Ref sig .tc := ⟨.hbm, 41, rfl⟩
abbrev main_while0b_v15 : Ref sig .tc := ⟨.hbm, 42, rfl⟩
abbrev main_while0b_v16 : Ref sig .tc := ⟨.hbm, 43, rfl⟩
abbrev main_while0b_v17 : Ref sig .tc := ⟨.hbm, 44, rfl⟩
abbrev main_while0b_v18 : Ref sig .tc := ⟨.hbm, 45, rfl⟩
abbrev main_while0b_cst_14 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_call2_v0 : Ref sig .tc := ⟨.hbm, 53, rfl⟩
abbrev main_while0b_call2_c : Ref sig .tc := ⟨.hbm, 54, rfl⟩
abbrev main_while0b_v25 : Ref sig .tc := ⟨.hbm, 55, rfl⟩
abbrev main_while0b_c_15 : Ref sig .tc := ⟨.hbm, 56, rfl⟩
abbrev main_while0b_v26 : Ref sig .tc := ⟨.hbm, 57, rfl⟩

abbrev nD : Nat := 1
abbrev τ : Topo := Topo.v7x

variable {F : FTy → Type} [FloatOps F]

abbrev main_while0_count : Scf.Loop 32 := ⟨0#32, 4#32, 1#32⟩
-- ==== Proof.Coe.lean ====
/- Extended reals that are real numbers: sums, quotients and the literals of the two programs. -/
module

public import Mathlib.Algebra.BigOperators.Fin
public import Idealize.ShloMosaic.Lib.Pointwise

@[expose] public section

noncomputable section

namespace Cert.Coe

open Idealize.ShloMosaic

/-- A finite sum of real numbers, in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers, the divisor not zero. -/
theorem div_coe (x : ℝ) {y : ℝ} (h : y ≠ 0) : Ideal.div (x : EReal) (y : EReal) = ((x / y : ℝ) : EReal) := by
  rw [Ideal.div_coe h, ← EReal.coe_mul, mul_one_div]

theorem bits_ten : Ideal.ofBits .f32 0x41200000#32 = ((10 : ℝ) : EReal) := by
  simp [Ideal.ofBits, Ideal.ieee]; rw [← EReal.coe_mul]; norm_num
theorem bits_twenty : Ideal.ofBits .f32 0x41A00000#32 = ((20 : ℝ) : EReal) := by
  simp [Ideal.ofBits, Ideal.ieee]; rw [← EReal.coe_mul]; norm_num
theorem bits_half : Ideal.ofBits .f32 0x40200000#32 = ((5 / 2 : ℝ) : EReal) := by
  simp [Ideal.ofBits, Ideal.ieee]; rw [← EReal.coe_mul]; norm_num
theorem bits_256th : Ideal.ofBits .f32 0x3B800000#32 = ((1 / 256 : ℝ) : EReal) := by
  simp [Ideal.ofBits, Ideal.ieee]; rw [← EReal.coe_mul]; norm_num
theorem bits_one : Ideal.ofBits .f32 0x3F800000#32 = ((1 : ℝ) : EReal) := by
  simp [Ideal.ofBits_one_f32]
theorem bits_zero : Ideal.ofBits .f32 0x00000000#32 = ((0 : ℝ) : EReal) := by
  simp
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

end Cert.Coe
-- ==== Proof.Blocks.lean ====
/- How the kernel lays out its operands: rotations along the lanes, tiles of eight lanes, and the sum of 32 blocks. Each is
   stated once, for any rotation or tile, and read at an index. -/
module

public import proofs.«01_k».proof.Proof.Coe
public import proofs.«01_k».proof.Proof.Gen.KernelIdeal.Value

@[expose] public section

noncomputable section

namespace Cert.Kern

open Cert.KernelIdeal Cert.KernelIdeal.Gen Idealize.ShloMosaic

/-- A matrix cut after its first `m` columns, the last `n` put in front: column `k` is the old column `k - n` (mod 256). -/
theorem rot_apply {α : Type} (n m : Nat) (hn : n + m = 256) (hlt : n < 256) (x : S4x256.Idx → α)
    (h₁ : S4x256.Slices ![0, m] ⟨2, ![4, n]⟩) (h₂ : S4x256.Slices ![0, 0] ⟨2, ![4, m]⟩)
    (hc : Shape.Concatenates [⟨2, ![4, n]⟩, ⟨2, ![4, m]⟩] S4x256 1) (i : Fin 4) (k : Fin 256) :
    concatenate S4x256 1 [⟨⟨2, ![4, n]⟩, extractStridedSlice ⟨2, ![4, n]⟩ ![0, m] x h₁⟩,
        ⟨⟨2, ![4, m]⟩, extractStridedSlice ⟨2, ![4, m]⟩ ![0, 0] x h₂⟩] hc (ix2 i k)
      = x (ix2 i (k - ⟨n, hlt⟩)) := by
  rw [concatenate_pair_apply]
  split
  · rename_i hk
    change k.val < n at hk
    refine congrArg x (funext fun a => ?_)
    match a with
    | ⟨0, _⟩ => exact Fin.ext (by show 0 + i.val = i.val; omega)
    | ⟨1, _⟩ => exact Fin.ext (by show m + k.val = (k - ⟨n, hlt⟩ : Fin 256).val; simp only [Fin.sub_def]; omega)
  · rename_i hk
    change ¬ k.val < n at hk
    refine congrArg x (funext fun a => ?_)
    match a with
    | ⟨0, _⟩ => exact Fin.ext (by show 0 + i.val = i.val; omega)
    | ⟨1, _⟩ => exact Fin.ext (by show 0 + (k.val - n) = (k - ⟨n, hlt⟩ : Fin 256).val; simp only [Fin.sub_def]; omega)

/-- Slab `q` of a stack of matrices. -/
theorem slab_apply {α : Type} (q : Nat) (hq : q < 32) (u : S32x4x256.Idx → α) (h : S32x4x256.Slices ![q, 0, 0] S1x4x256)
    (h' : S1x4x256.ShapeCasts S4x256) (i : Fin 4) (k : Fin 256) :
    shapeCast S4x256 (extractStridedSlice S1x4x256 ![q, 0, 0] u h) h' (ix2 i k) = u (ix3 ⟨q, hq⟩ i k) := by
  pointwise

/-- Eight lanes from `o` on, four times over. -/
def tile {α : Type} (x : S4x256.Idx → α) (o : Nat) (h : S4x256.Slices ![0, o] S4x8) : S4x32.Idx → α :=
  concatenate S4x32 1 [⟨S4x8, extractStridedSlice S4x8 ![0, o] x h⟩, ⟨S4x8, extractStridedSlice S4x8 ![0, o] x h⟩,
    ⟨S4x8, extractStridedSlice S4x8 ![0, o] x h⟩, ⟨S4x8, extractStridedSlice S4x8 ![0, o] x h⟩]
    concatenates_S4x8_S4x8_S4x8_S4x8_S4x32_d1

theorem tile_apply {α : Type} (o : Nat) (x : S4x256.Idx → α) (h : S4x256.Slices ![0, o] S4x8) (ho : o ≤ 248)
    (i : Fin 4) (c : Fin 32) : tile x o h (ix2 i c) = x (ix2 i ⟨o + c.val % 8, by omega⟩) := by
  pointwise [tile]
  split_ifs <;> exact congrArg (fun t => x (ix2 i t)) (Fin.ext (by simp only; omega))

/-- Tile `q` starts at lane `8 q`. -/
theorem tile_fits : ∀ q : Fin 32, S4x256.Slices ![0, 8 * q.val] S4x8 := by decide

/-- The kernel's tree of sums over 32 blocks is the sum. -/
theorem tree_sum {M : Type*} [AddCommMonoid M] (g : Fin 32 → M) :
    ((((g 0 + g 1) + (g 2 + g 3)) + ((g 4 + g 5) + (g 6 + g 7))) + (((g 8 + g 9) + (g 10 + g 11)) + ((g 12 + g 13) + (g 14 + g 15))))
      + ((((g 16 + g 17) + (g 18 + g 19)) + ((g 20 + g 21) + (g 22 + g 23))) + (((g 24 + g 25) + (g 26 + g 27)) + ((g 28 + g 29) + (g 30 + g 31))))
      = ∑ q, g q := by
  rw [Fin.sum_univ_tiles 4 8 rfl]
  simp only [Fin.sum_univ_four, Fin.sum_univ_eight, add_assoc]
  rfl

end Cert.Kern
-- ==== Proof.Product.lean ====
/- The kernel's block product: 32 blocks of the circular convolution, and their sum. -/
module

public import proofs.«01_k».proof.Proof.Blocks

@[expose] public section

set_option maxRecDepth 16384

noncomputable section

namespace Cert.Kern

open Cert.KernelIdeal Cert.KernelIdeal.Gen Idealize.ShloMosaic

variable (x0 x1 : Vec Ideal S4x256 .f32)

/-- The right operand of the block product: row `8 i + l` is row `i` of the second factors, turned by `l`. -/
theorem base_apply (i : Fin 4) (l : Fin 8) (k : Fin 256) :
    k0_pay112 x0 x1 (ix2 ⟨8 * i.val + l.val, by omega⟩ k) = k0_pay106 x0 x1 (ix2 i (k - ⟨l.val, by omega⟩)) := by
  have e : k0_pay106 x0 x1 = k0_pay3 (View.ld x1 r0_0) := rfl
  rw [e]
  generalize hy : k0_pay3 (View.ld x1 r0_0) = y
  pointwise [k0_pay112, k0_pay18, k0_pay10, k0_pay11, k0_pay12, k0_pay13, k0_pay14, k0_pay15, k0_pay16, k0_pay17, hy, rot_apply]
  fin_vals l with hl
  all_goals simp only [hl, Nat.reduceSub, Nat.reduceLT, ↓reduceDIte]
  all_goals first
    | rfl
    | exact congrArg (fun t => y (ix2 i t)) (Fin.ext (by simp only [Fin.sub_def]; omega))

/-- The left operand's tiles, stacked: row `4 q + i` repeats lanes `8 q … 8 q + 7` of row `i` of the first factors. -/
def stack (x : S4x256.Idx → EReal) : S128x32.Idx → EReal := fun j =>
  x (ix2 ⟨(j 0).val % 4, by omega⟩ ⟨8 * ((j 0).val / 4) + (j 1).val % 8, by have : (j 0).val < 128 := (j 0).isLt; omega⟩)

theorem stack_of_list (x : S4x256.Idx → EReal) (xs : List ((s : Shape) × (s.Idx → EReal)))
    (hc : Shape.Concatenates (xs.map (·.1)) S128x32 0)
    (hx : xs = List.ofFn fun q : Fin 32 => ⟨S4x32, tile x (8 * q.val) (tile_fits q)⟩) :
    concatenate S128x32 0 xs hc = stack x := by
  subst hx
  funext j
  have hj : (j 0).val < 128 := (j 0).isLt
  refine (concatenate_ofFn_apply (s₁ := S4x32) 0 (fun q : Fin 32 => tile x (8 * q.val) (tile_fits q)) hc rfl 4 rfl j
    ⟨(j 0).val / 4, by omega⟩ rfl (ix2 ⟨(j 0).val % 4, by omega⟩ (j 1)) rfl ?_).trans
      (tile_apply _ x _ (by show 8 * ((j 0).val / 4) ≤ 248; omega) _ _)
  intro b hb
  match b with
  | ⟨0, _⟩ => exact absurd rfl hb
  | ⟨1, _⟩ => rfl

/-- The mask of the left operand: columns `8 i' … 8 i' + 7` belong to row `i'` of each block. -/
theorem mask_col : ∀ (i' : Fin 4) (l : Fin 8),
    IntOp.shrsi .vector (BitVec.ofNat 32 (i'.val * 8 + l.val)) 3#32 = BitVec.ofNat 32 i'.val := by
  decide
theorem mask_row : ∀ (q : Fin 32) (i : Fin 4), IntOp.andi (BitVec.ofNat 32 (q.val * 4 + i.val)) 3#32 = BitVec.ofNat 32 i.val := by
  decide
theorem mask_eq : ∀ (i' i : Fin 4),
    IntOp.cmpi .eq (BitVec.ofNat 32 i'.val) (BitVec.ofNat 32 i.val) = if i' = i then 1#1 else 0#1 := by
  decide

/-- The block product, its left operand's tiles stacked. -/
theorem product_eq (y : FVec Ideal S32x256 .f32) (x : FVec Ideal S4x256 .f32) (q : Fin 32) (i : Fin 4) (k : Fin 256) :
    k0_pay48 x y (k0_pay19 x) (k0_pay20 x) (k0_pay21 x) (k0_pay22 x) (k0_pay23 x) (k0_pay24 x) (k0_pay25 x) (k0_pay26 x) (k0_pay27 x) (k0_pay28 x) (k0_pay29 x) (k0_pay30 x) (k0_pay31 x) (k0_pay32 x) (k0_pay33 x) (k0_pay34 x) (k0_pay35 x) (k0_pay36 x) (k0_pay37 x) (k0_pay38 x) (k0_pay39 x) (k0_pay40 x) (k0_pay41 x) (k0_pay42 x) (k0_pay43 x) (k0_pay44 x) (k0_pay45 x) (k0_pay46 x) (k0_pay47 x) (ix3 q i k)
      = ∑ l : Fin 8, x (ix2 i ⟨8 * q.val + l.val, by omega⟩) * y (ix2 ⟨8 * i.val + l.val, by omega⟩ k) := by
  have e : k0_pay48 x y (k0_pay19 x) (k0_pay20 x) (k0_pay21 x) (k0_pay22 x) (k0_pay23 x) (k0_pay24 x) (k0_pay25 x) (k0_pay26 x) (k0_pay27 x) (k0_pay28 x) (k0_pay29 x) (k0_pay30 x) (k0_pay31 x) (k0_pay32 x) (k0_pay33 x) (k0_pay34 x) (k0_pay35 x) (k0_pay36 x) (k0_pay37 x) (k0_pay38 x) (k0_pay39 x) (k0_pay40 x) (k0_pay41 x) (k0_pay42 x) (k0_pay43 x) (k0_pay44 x) (k0_pay45 x) (k0_pay46 x) (k0_pay47 x)
      = shapeCast S32x4x256 (matmul dot_S128x32_S32x256_S128x256_1_0_0_1_n_n none
          (select (cmpi .eq (shrsi (iota .tc S128x32 32 [1] iota_S128x32_d1_w32) (broadcast S128x32 3#32))
            (andi (iota .tc S128x32 32 [0] iota_S128x32_d0_w32) (broadcast S128x32 3#32)))
            (stack x) (broadcast S128x32 (Scalar.ofBits (F := Ideal) .f32 0x00000000#32)))
          y (constant S128x256 .f32 0x00000000#32)) shapeCasts_S128x256_S32x4x256 :=
    congrArg (fun z => shapeCast S32x4x256 (matmul dot_S128x32_S32x256_S128x256_1_0_0_1_n_n none
          (select (cmpi .eq (shrsi (iota .tc S128x32 32 [1] iota_S128x32_d1_w32) (broadcast S128x32 3#32))
            (andi (iota .tc S128x32 32 [0] iota_S128x32_d0_w32) (broadcast S128x32 3#32)))
            z (broadcast S128x32 (Scalar.ofBits (F := Ideal) .f32 0x00000000#32)))
          y (constant S128x256 .f32 0x00000000#32)) shapeCasts_S128x256_S32x4x256) (stack_of_list x _ _ rfl)
  rw [e]
  pointwise [stack]
  rw [Fin.sum_univ_tiles 4 8 rfl]
  simp only [mask_col, mask_row, mask_eq]
  rw [Finset.sum_eq_single i]
  · refine Finset.sum_congr rfl fun l _ => ?_
    rw [if_pos rfl]
    have h1 : ∀ h, (⟨(q.val * 4 + i.val) % 4, h⟩ : Fin 4) = i := fun h => Fin.ext (by simp only; omega)
    have h2 : ∀ h, (⟨8 * ((q.val * 4 + i.val) / 4) + (i.val * 8 + l.val) % 8, h⟩ : Fin 256) = ⟨8 * q.val + l.val, by omega⟩ :=
      fun h => Fin.ext (by simp only; omega)
    have h3 : ∀ h, (⟨i.val * 8 + l.val, h⟩ : Fin 32) = ⟨8 * i.val + l.val, by omega⟩ := fun h => Fin.ext (by simp only; omega)
    simp only [h1, h2, h3]
    rfl
  · intro i' _ hi
    refine Finset.sum_eq_zero fun l _ => ?_
    rw [if_neg hi]
    rfl
  · exact fun h => absurd (Finset.mem_univ _) h

/-- Block `q` of the convolution, before it is turned to its place. -/
theorem block_apply (q : Fin 32) (i : Fin 4) (k : Fin 256) :
    k0_pay142 x0 x1 (ix3 q i k)
      = ∑ l : Fin 8, k0_pay105 x0 x1 (ix2 i ⟨8 * q.val + l.val, by omega⟩) * k0_pay106 x0 x1 (ix2 i (k - ⟨l.val, by omega⟩)) := by
  simp only [← base_apply]
  exact product_eq _ _ q i k

/-- The 32 blocks, each turned to its place, summed. -/
theorem u0_sum (i : Fin 4) (k : Fin 256) :
    k0_pay174 x0 x1 (ix2 i k) = ∑ q : Fin 32, k0_pay142 x0 x1 (ix3 q i (k - ⟨8 * q.val, by omega⟩)) := by
  have h0 : k - ⟨8 * (0 : Fin 32).val, by decide⟩ = k := Fin.ext (by simp only [Fin.sub_def]; simp)
  rw [← tree_sum]
  simp only [k0_pay174, k0_pay84, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay142]
  simp only [ValueIdx.addf_apply, rot_apply, slab_apply, Nat.reduceAdd, Nat.reduceLT, h0]
  rfl

end Cert.Kern
-- ==== Proof.Spec.lean ====
/- The mathematics of one byte addition with carry, over the real numbers: what a step's digit row and carry are, and the
   sums by which they can be computed. Nothing here mentions either program. -/
module

public import Mathlib.Analysis.SpecialFunctions.Exp
public import Mathlib.Algebra.BigOperators.Fin
public import Mathlib.Tactic.Ring
public import Mathlib.Tactic.FieldSimp
public import Idealize.ShloMosaic.Lib.Pointwise.Sums

@[expose] public section

noncomputable section

namespace Cert.Spec

open Idealize.ShloMosaic

/-- A byte's 256 unnormalised weights. -/
abbrev Row := Fin 256 → ℝ

/-- The sum of a row. -/
def total (A : Row) : ℝ := ∑ a, A a
/-- The circular convolution of two rows: the weight of each low byte of `a + b`. -/
def conv (A B : Row) (k : Fin 256) : ℝ := ∑ a, A a * B (k - a)
/-- The weight of the pairs whose sum carries. -/
def over (A B : Row) : ℝ := ∑ a : Fin 256, ∑ b : Fin 256, if 256 ≤ a.val + b.val then A a * B b else 0
/-- The weight of the pairs whose sum is 255, which carry only when a carry comes in. -/
def edge (A B : Row) : ℝ := ∑ a : Fin 256, ∑ b : Fin 256, if a.val + b.val = 255 then A a * B b else 0
/-- The probability that a carry comes in, of the carry's soft value `c`. -/
def gate (c : ℝ) : ℝ := 1 / (1 + Real.exp (10 - 20 * c))
/-- A step's digit row. -/
def digit (A B : Row) (c : ℝ) (k : Fin 256) : ℝ :=
  (conv A B k + gate c * (conv A B (k - 1) - conv A B k)) / (total A * total B)
/-- A step's carry out. -/
def carry (A B : Row) (c : ℝ) : ℝ := (over A B + gate c * edge A B) / (total A * total B)

/-- The row of weights `exp (10 x)`. -/
def expRow (x : Row) : Row := fun a => Real.exp (10 * x a)

/-- The carry before step `n`, of the rows of embeddings. -/
def carryAt (X Y : Fin 4 → Row) : Nat → ℝ
  | 0 => 0
  | n + 1 => carry (expRow (X (Fin.ofNat 4 n))) (expRow (Y (Fin.ofNat 4 n))) (carryAt X Y n)

/-- The four digit rows: step `i` adds row `i` of the embeddings with the carry before it. -/
def result (X Y : Fin 4 → Row) (i : Fin 4) (k : Fin 256) : ℝ :=
  digit (expRow (X i)) (expRow (Y i)) (carryAt X Y i.val) k

/-! ### Sums over blocks -/

/-- The convolution block by block: 32 blocks of 8. -/
theorem conv_blocks (A B : Row) (k : Fin 256) :
    ∑ q : Fin 32, ∑ l : Fin 8, A ⟨8 * q.val + l.val, by omega⟩ * B (k - ⟨8 * q.val + l.val, by omega⟩) = conv A B k := by
  unfold conv
  rw [Fin.sum_univ_tiles 32 8 rfl]
  simp only [Nat.mul_comm]

/-- The pairs that carry, from the two moments and the sum of the low bytes: `a + b - (a + b) mod 256` is 256 or 0. -/
theorem over_of_moments (A B : Row) :
    (((∑ a, A a * (a.val : ℝ)) * total B + total A * ∑ b, B b * (b.val : ℝ))
      - ∑ b : Fin 256, (∑ a : Fin 256, A a * (((a.val + b.val) % 256 : ℕ) : ℝ)) * B b) * (1 / 256) = over A B := by
  have h1 : (∑ a, A a * (a.val : ℝ)) * total B = ∑ a : Fin 256, ∑ b : Fin 256, A a * B b * (a.val : ℝ) := by
    unfold total; rw [Finset.sum_mul_sum]
    exact Finset.sum_congr rfl fun a _ => Finset.sum_congr rfl fun b _ => by ring
  have h2 : total A * ∑ b, B b * (b.val : ℝ) = ∑ a : Fin 256, ∑ b : Fin 256, A a * B b * (b.val : ℝ) := by
    unfold total; rw [Finset.sum_mul_sum]
    exact Finset.sum_congr rfl fun a _ => Finset.sum_congr rfl fun b _ => by ring
  have h3 : ∑ b : Fin 256, (∑ a : Fin 256, A a * (((a.val + b.val) % 256 : ℕ) : ℝ)) * B b
      = ∑ a : Fin 256, ∑ b : Fin 256, A a * B b * (((a.val + b.val) % 256 : ℕ) : ℝ) := by
    rw [Finset.sum_comm]
    refine Finset.sum_congr rfl fun b _ => ?_
    rw [Finset.sum_mul]
    exact Finset.sum_congr rfl fun a _ => by ring
  rw [h1, h2, h3, ← Finset.sum_add_distrib, ← Finset.sum_sub_distrib, Finset.sum_mul]
  unfold over
  refine Finset.sum_congr rfl fun a _ => ?_
  rw [← Finset.sum_add_distrib, ← Finset.sum_sub_distrib, Finset.sum_mul]
  refine Finset.sum_congr rfl fun b _ => ?_
  have hm : a.val + b.val = (a.val + b.val) % 256 + if 256 ≤ a.val + b.val then 256 else 0 := by split <;> omega
  have hr : (a.val : ℝ) + (b.val : ℝ) = (((a.val + b.val) % 256 : ℕ) : ℝ) + if 256 ≤ a.val + b.val then (256 : ℝ) else 0 := by
    exact_mod_cast hm
  have e : A a * B b * (a.val : ℝ) + A a * B b * (b.val : ℝ) - A a * B b * (((a.val + b.val) % 256 : ℕ) : ℝ)
      = A a * B b * (((a.val : ℝ) + (b.val : ℝ)) - (((a.val + b.val) % 256 : ℕ) : ℝ)) := by ring
  rw [e, hr]
  split <;> ring

/-- The pairs whose sum is 255, as a product with the 0/1 table of `a + b = 255`. -/
theorem edge_of_table (A B : Row) :
    ∑ b : Fin 256, (∑ a : Fin 256, A a * (if a.val + b.val = 255 then (1 : ℝ) else 0)) * B b = edge A B := by
  unfold edge
  rw [Finset.sum_comm]
  refine Finset.sum_congr rfl fun b _ => ?_
  rw [Finset.sum_mul]
  refine Finset.sum_congr rfl fun a _ => ?_
  split <;> ring

/-! ### The step as one softmax over all triples -/

/-- A table entry's number `512 a + 2 b + c`. -/
def entry (a b : Fin 256) (c : Fin 2) : Fin 131072 := ⟨a.val * 512 + (b.val * 2 + c.val), by omega⟩

/-- A sum over the table's entries is a sum over the triples. -/
theorem sum_entries {M : Type*} [AddCommMonoid M] (f : Fin 131072 → M) :
    ∑ i, f i = ∑ a : Fin 256, ∑ b : Fin 256, ∑ c : Fin 2, f (entry a b c) := by
  rw [Fin.sum_univ_tiles 256 512 rfl]
  refine Finset.sum_congr rfl fun a _ => ?_
  rw [Fin.sum_univ_tiles 256 2 rfl]
  rfl

/-- The weight of a triple: `A a * B b * C c`. -/
theorem sum_all (A B : Row) (C : Fin 2 → ℝ) :
    ∑ a : Fin 256, ∑ b : Fin 256, ∑ c : Fin 2, A a * B b * C c = total A * total B * (C 0 + C 1) := by
  unfold total
  rw [Finset.sum_mul_sum, Finset.sum_mul]
  refine Finset.sum_congr rfl fun a _ => ?_
  rw [Finset.sum_mul]
  refine Finset.sum_congr rfl fun b _ => ?_
  rw [Fin.sum_univ_two]; ring

/-- The triples whose low byte is `k`. -/
theorem sum_digit (A B : Row) (C : Fin 2 → ℝ) (k : Fin 256) :
    ∑ a : Fin 256, ∑ b : Fin 256, ∑ c : Fin 2, A a * B b * C c * (if (a.val + b.val + c.val) % 256 = k.val then (1 : ℝ) else 0)
      = C 0 * conv A B k + C 1 * conv A B (k - 1) := by
  unfold conv
  rw [Finset.mul_sum, Finset.mul_sum, ← Finset.sum_add_distrib]
  refine Finset.sum_congr rfl fun a _ => ?_
  simp only [Fin.sum_univ_two]
  rw [Finset.sum_add_distrib]
  congr 1
  · rw [Finset.sum_eq_single (k - a)]
    · rw [if_pos (by simp only [Fin.sub_def, Fin.val_zero]; omega)]; ring
    · intro b _ hb
      rw [if_neg, mul_zero]
      intro h
      exact hb (Fin.ext (by simp only [Fin.sub_def, Fin.val_zero] at h ⊢; omega))
    · intro h; exact absurd (Finset.mem_univ _) h
  · rw [Finset.sum_eq_single (k - 1 - a)]
    · rw [if_pos (by simp only [Fin.sub_def, Fin.val_one]; simp; omega)]; ring
    · intro b _ hb
      rw [if_neg, mul_zero]
      intro h
      exact hb (Fin.ext (by simp only [Fin.sub_def, Fin.val_one] at h ⊢; simp; omega))
    · intro h; exact absurd (Finset.mem_univ _) h

/-- The triples that carry. -/
theorem sum_carry (A B : Row) (C : Fin 2 → ℝ) :
    ∑ a : Fin 256, ∑ b : Fin 256, ∑ c : Fin 2, A a * B b * C c * (if 256 ≤ a.val + b.val + c.val then (1 : ℝ) else 0)
      = C 0 * over A B + C 1 * (over A B + edge A B) := by
  unfold over edge
  rw [← Finset.sum_add_distrib, Finset.mul_sum, Finset.mul_sum, ← Finset.sum_add_distrib]
  refine Finset.sum_congr rfl fun a _ => ?_
  rw [← Finset.sum_add_distrib, Finset.mul_sum, Finset.mul_sum, ← Finset.sum_add_distrib]
  refine Finset.sum_congr rfl fun b _ => ?_
  simp only [Fin.sum_univ_two, Fin.val_zero, Fin.val_one, Nat.add_zero]
  rcases Nat.lt_trichotomy (a.val + b.val) 255 with h | h | h
  · simp [show ¬ 256 ≤ a.val + b.val by omega, show ¬ 256 ≤ a.val + b.val + 1 by omega, show a.val + b.val ≠ 255 by omega]
  · simp [h]; ring
  · simp [show 256 ≤ a.val + b.val by omega, show 256 ≤ a.val + b.val + 1 by omega, show a.val + b.val ≠ 255 by omega]; ring

/-- The gate is the softmax weight of the carry's second entry, at `(1 - c, c)`. -/
theorem gate_eq (c : ℝ) :
    gate c = Real.exp (10 * c) / (Real.exp (10 * (1 - c)) + Real.exp (10 * c)) := by
  unfold gate
  have h : Real.exp (10 - 20 * c) = Real.exp (10 * (1 - c)) / Real.exp (10 * c) := by
    rw [← Real.exp_sub]; congr 1; ring
  rw [h]
  have := Real.exp_pos (10 * c)
  have := Real.exp_pos (10 * (1 - c))
  field_simp
  ring

theorem total_pos {A : Row} (hA : ∀ a, 0 < A a) : 0 < total A :=
  Finset.sum_pos (fun a _ => hA a) ⟨0, Finset.mem_univ _⟩

/-- The digit row is the softmax's weight of the triples with that low byte. -/
theorem digit_eq {A B : Row} (hA : ∀ a, 0 < A a) (hB : ∀ a, 0 < B a) (c : ℝ) (k : Fin 256) :
    (Real.exp (10 * (1 - c)) * conv A B k + Real.exp (10 * c) * conv A B (k - 1))
      / (total A * total B * (Real.exp (10 * (1 - c)) + Real.exp (10 * c))) = digit A B c k := by
  unfold digit
  rw [gate_eq]
  have := total_pos hA; have := total_pos hB
  have := Real.exp_pos (10 * c); have := Real.exp_pos (10 * (1 - c))
  field_simp
  ring

/-- The carry out is the softmax's weight of the triples that carry. -/
theorem carry_eq {A B : Row} (hA : ∀ a, 0 < A a) (hB : ∀ a, 0 < B a) (c : ℝ) :
    (Real.exp (10 * (1 - c)) * over A B + Real.exp (10 * c) * (over A B + edge A B))
      / (total A * total B * (Real.exp (10 * (1 - c)) + Real.exp (10 * c))) = carry A B c := by
  unfold carry
  rw [gate_eq]
  have := total_pos hA; have := total_pos hB
  have := Real.exp_pos (10 * c); have := Real.exp_pos (10 * (1 - c))
  field_simp
  ring

end Cert.Spec
-- ==== Proof.Words.lean ====
/- The programs' index words: what 32-bit arithmetic, comparisons and conversions give on small numbers. -/
module

public import Idealize.ShloMosaic.Lib.Pointwise
public import Idealize.ShloMosaic.Lib.WordArith
public import Idealize.ShloMosaic.Lib.WordCmp

@[expose] public section

noncomputable section

namespace Cert.Words

open Idealize.ShloMosaic

/-- A sum of two index words is the word of the sum. -/
theorem add_word (a b : Nat) : IntOp.addi (BitVec.ofNat 32 a) (BitVec.ofNat 32 b) = BitVec.ofNat 32 (a + b) :=
  (BitVec.ofNat_add a b).symm

/-- Masking by 255 keeps the low byte. -/
theorem and_byte (n : Nat) : IntOp.andi (BitVec.ofNat 32 n) 255#32 = BitVec.ofNat 32 (n % 256) := by
  apply BitVec.eq_of_toNat_eq
  show (BitVec.ofNat 32 n &&& 255#32).toNat = _
  rw [BitVec.toNat_and, BitVec.toNat_ofNat, BitVec.toNat_ofNat, BitVec.toNat_ofNat]
  rw [show 255 % 2 ^ 32 = 2 ^ 8 - 1 from rfl, Nat.and_two_pow_sub_one_eq_mod]
  omega

/-- Comparing two index words compares the numbers. -/
theorem eq_word {a b : Nat} (ha : a < 2 ^ 31) (hb : b < 2 ^ 31) :
    IntOp.cmpi .eq (BitVec.ofNat 32 a) (BitVec.ofNat 32 b) = if a = b then 1#1 else 0#1 := by
  have h : BitVec.ofNat 32 a = BitVec.ofNat 32 b ↔ a = b := by
    rw [← BitVec.toNat_inj, BitVec.toNat_ofNat, BitVec.toNat_ofNat]; omega
  rw [WordCmp.cmpi_eq_eq]
  by_cases hab : a = b <;> simp [h, hab]

theorem lt_word {a b : Nat} (ha : a < 2 ^ 31) (hb : b < 2 ^ 31) :
    IntOp.cmpi .slt (BitVec.ofNat 32 a) (BitVec.ofNat 32 b) = if a < b then 1#1 else 0#1 := by
  rw [WordCmp.cmpi_slt_eq, WordArith.toInt_ofNat_small _ ha, WordArith.toInt_ofNat_small _ hb]
  by_cases hab : a < b <;> simp [hab]

theorem ge_word {a b : Nat} (ha : a < 2 ^ 31) (hb : b < 2 ^ 31) :
    IntOp.cmpi .sge (BitVec.ofNat 32 a) (BitVec.ofNat 32 b) = if b ≤ a then 1#1 else 0#1 := by
  rw [WordCmp.cmpi_sge_eq, WordArith.toInt_ofNat_small _ ha, WordArith.toInt_ofNat_small _ hb]
  by_cases hab : b ≤ a <;> simp [hab]

/-- An index word, converted to a float, is the number. -/
theorem float_word {n : Nat} (h : n < 2 ^ 31) :
    (FloatOps.sitofp .f32 (BitVec.ofNat 32 n) : Ideal .f32) = ((n : ℝ) : EReal) := by
  show (((BitVec.ofNat 32 n).toInt : ℝ) : EReal) = _
  rw [WordArith.toInt_ofNat_small _ h]
  simp

/-- A choice by a condition's bit. -/
theorem select_bit {α : Type} (p : Prop) [Decidable p] (x y : α) :
    Scalar.select (if p then 1#1 else 0#1) x y = if p then x else y := by
  by_cases h : p <;> simp [h, Scalar.select]

end Cert.Words
-- ==== Proof.Factors.lean ====
/- What the kernel's factors, their sums and their convolution hold, as real numbers. -/
module

public import proofs.«01_k».proof.Proof.Product
public import proofs.«01_k».proof.Proof.Spec
public import proofs.«01_k».proof.Proof.Coe
public import proofs.«01_k».proof.Proof.Words

@[expose] public section

set_option maxRecDepth 16384

noncomputable section

namespace Cert.Kern

open Cert.KernelIdeal Cert.KernelIdeal.Gen Idealize.ShloMosaic Cert.Spec

/-- An array of the kernel holds the rows of real numbers `A`. -/
def Holds (x : FVec Ideal S4x256 .f32) (A : Fin 4 → Row) : Prop := ∀ i k, x (ix2 i k) = ((A i k : ℝ) : EReal)

/-- The rows of weights `exp (10 x)`. -/
def weights (X : Fin 4 → Row) : Fin 4 → Row := fun i => expRow (X i)

section Rows
variable {x y : FVec Ideal S4x256 .f32} {A B : Fin 4 → Row}

/-- Exponentials of ten times an array. -/
theorem exp_rows {X : Fin 4 → Row} (hx : Holds x X) : Holds (exp (mulf (broadcast S4x256 (Scalar.ofBits (F := Ideal) .f32 0x41200000#32)) x)) (weights X) := by
  intro i k
  pointwise [hx i k, Coe.bits_ten]
  rw [← EReal.coe_mul, Ideal.exp_coe]
  rfl

/-- The sum of each row. -/
theorem sum_rows (hx : Holds x A) (i : Fin 4) :
    shapeCast S4x1 (multiReduction (F := Ideal) .add [1] S4 x 0x00000000#32 reduces_S4x256_S4 (.inl rfl) rfl) shapeCasts_S4_S4x1 (ix2 i 0)
      = ((∑ a, A i a : ℝ) : EReal) := by
  pointwise [hx i]
  exact Coe.sum_coe _ _

/-- The lanes' numbers. -/
theorem lane_rows : Holds (k0_pay4 (F := Ideal)) fun _ a => (a.val : ℝ) := by
  intro i k
  pointwise [k0_pay4]
  exact Words.float_word (by omega)

/-- The product of two arrays. -/
theorem mul_rows (hx : Holds x A) (hy : Holds y B) : Holds (mulf x y) fun i a => A i a * B i a := by
  intro i k
  pointwise [hx i k, hy i k]
  exact (EReal.coe_mul _ _).symm

/-- The product with the two tables of the pairs of bytes: the low byte's number, and whether the sum is 255. -/
theorem low_table (hx : Holds x A) :
    Holds (extractStridedSlice S4x256 ![0, 0] (k0_pay86 x) slices_S4x512_o0_0_S4x256)
      fun i b => ∑ a : Fin 256, A i a * (((a.val + b.val) % 256 : ℕ) : ℝ) := by
  intro i b
  rw [← Coe.sum_coe]
  pointwise [k0_pay86, hx i]
  refine Finset.sum_congr rfl fun a _ => ?_
  rw [Words.lt_word (by omega) (by omega), Words.select_bit, Words.add_word, Words.and_byte, Words.float_word (by omega), EReal.coe_mul]
  simp

theorem edge_table (hx : Holds x A) :
    Holds (k0_pay88 x) fun i b => ∑ a : Fin 256, A i a * (if a.val + b.val = 255 then 1 else 0) := by
  intro i b
  rw [← Coe.sum_coe]
  pointwise [k0_pay88, k0_pay86, hx i]
  refine Finset.sum_congr rfl fun a _ => ?_
  rw [Words.lt_word (by omega) (by omega), Words.select_bit, Words.add_word, Words.eq_word (by omega) (by omega), Words.select_bit, EReal.coe_mul]
  rw [if_neg (by omega)]
  by_cases h : a.val + b.val = 255
  · rw [if_pos (by omega), if_pos h]; rfl
  · rw [if_neg (by omega), if_neg h]; rfl

end Rows

variable {x0 x1 : Vec Ideal S4x256 .f32} {X Y : Fin 4 → Row}

/-- A load of the whole array reads the array. -/
theorem load_eq (x : Vec Ideal S4x256 .f32) : View.ld x r0_0 = x := by
  funext j
  idx_vars j
  pointwise [View.ld, r0_0]

theorem fst_rows (hX : Holds x0 X) : Holds (k0_pay105 x0 x1) (weights X) := by
  unfold k0_pay105; rw [load_eq]; exact exp_rows hX

theorem snd_rows (hY : Holds x1 Y) : Holds (k0_pay106 x0 x1) (weights Y) := by
  unfold k0_pay106; rw [load_eq]; exact exp_rows hY

/-- The convolution, and the convolution turned by one lane. -/
theorem u0_rows (hX : Holds x0 X) (hY : Holds x1 Y) :
    Holds (k0_pay174 x0 x1) fun i => conv (weights X i) (weights Y i) := by
  intro i k
  show _ = ((conv (weights X i) (weights Y i) k : ℝ) : EReal)
  rw [u0_sum, ← conv_blocks, ← Coe.sum_coe]
  refine Finset.sum_congr rfl fun q _ => ?_
  rw [block_apply, ← Coe.sum_coe]
  refine Finset.sum_congr rfl fun l _ => ?_
  rw [fst_rows hX, snd_rows hY, ← EReal.coe_mul, sub_sub]
  have e : (⟨8 * q.val, by omega⟩ + ⟨l.val, by omega⟩ : Fin 256) = ⟨8 * q.val + l.val, by omega⟩ :=
    Fin.ext (by simp only [Fin.add_def]; omega)
  rw [e]

theorem u1_rows (hX : Holds x0 X) (hY : Holds x1 Y) :
    Holds (k0_pay175 x0 x1) fun i k => conv (weights X i) (weights Y i) (k - 1) := by
  intro i k
  have e : k0_pay175 x0 x1 = concatenate S4x256 1 [⟨S4x1, extractStridedSlice S4x1 ![0, 255] (k0_pay174 x0 x1) slices_S4x256_o0_255_S4x1⟩, ⟨S4x255, extractStridedSlice S4x255 ![0, 0] (k0_pay174 x0 x1) slices_S4x256_o0_0_S4x255⟩] concatenates_S4x1_S4x255_S4x256_d1 := rfl
  rw [e]
  refine (rot_apply 1 255 rfl (by decide) _ _ _ _ i k).trans ?_
  exact u0_rows hX hY i (k - 1)

/-- The sums, first moments, total weight, and the low byte's table sum of the factors. -/
theorem fst_total (hX : Holds x0 X) (i : Fin 4) : k0_pay107 x0 x1 (ix2 i 0) = ((total (weights X i) : ℝ) : EReal) :=
  sum_rows (fst_rows (x1 := x1) hX) i

theorem snd_total (hY : Holds x1 Y) (i : Fin 4) : k0_pay108 x0 x1 (ix2 i 0) = ((total (weights Y i) : ℝ) : EReal) :=
  sum_rows (snd_rows (x0 := x0) hY) i

theorem fst_moment (hX : Holds x0 X) (i : Fin 4) :
    k0_pay109 x0 x1 (ix2 i 0) = ((∑ a : Fin 256, weights X i a * (a.val : ℝ) : ℝ) : EReal) :=
  sum_rows (mul_rows (fst_rows (x1 := x1) hX) lane_rows) i

theorem snd_moment (hY : Holds x1 Y) (i : Fin 4) :
    k0_pay110 x0 x1 (ix2 i 0) = ((∑ a : Fin 256, weights Y i a * (a.val : ℝ) : ℝ) : EReal) :=
  sum_rows (mul_rows (snd_rows (x0 := x0) hY) lane_rows) i

theorem both_total (hX : Holds x0 X) (hY : Holds x1 Y) (i : Fin 4) :
    k0_pay111 x0 x1 (ix2 i 0) = ((total (weights X i) * total (weights Y i) : ℝ) : EReal) := by
  have e : k0_pay111 x0 x1 = mulf (k0_pay107 x0 x1) (k0_pay108 x0 x1) := rfl
  rw [e, ValueIdx.mulf_apply, fst_total hX, snd_total hY]
  exact (EReal.coe_mul _ _).symm

theorem low_total (hX : Holds x0 X) (hY : Holds x1 Y) (i : Fin 4) :
    k0_pay176 x0 x1 (ix2 i 0)
      = ((∑ b : Fin 256, (∑ a : Fin 256, weights X i a * (((a.val + b.val) % 256 : ℕ) : ℝ)) * weights Y i b : ℝ) : EReal) :=
  sum_rows (mul_rows (low_table (fst_rows (x1 := x1) hX)) (snd_rows (x0 := x0) hY)) i

theorem edge_total (hX : Holds x0 X) (hY : Holds x1 Y) (i : Fin 4) :
    shapeCast S4x1 (multiReduction (F := Ideal) .add [1] S4 (mulf (k0_pay177 x0 x1) (k0_pay106 x0 x1)) 0x00000000#32 reduces_S4x256_S4 (.inl rfl) rfl) shapeCasts_S4_S4x1 (ix2 i 0)
      = ((edge (weights X i) (weights Y i) : ℝ) : EReal) := by
  rw [← edge_of_table]
  exact sum_rows (mul_rows (edge_table (fst_rows (x1 := x1) hX)) (snd_rows (x0 := x0) hY)) i

end Cert.Kern
-- ==== Proof.Rows.lean ====
/- The kernel's four digit rows and the carries between them. -/
module

public import proofs.«01_k».proof.Proof.Factors
public import proofs.«01_k».proof.Proof.Gen.KernelIdeal.Value
public import Idealize.ShloMosaic.Lib.Pipeline.ValueKit.Tiles

@[expose] public section

set_option maxRecDepth 16384

noncomputable section

namespace Cert.Kern

open Cert.KernelIdeal Cert.KernelIdeal.Gen Idealize.ShloMosaic Cert.Spec

/-- The kernel's quotient for the probability of a carry, on a real carry. -/
theorem gate_coe (c : ℝ) :
    Ideal.div ((1 : ℝ) : EReal) (((1 : ℝ) : EReal) + Ideal.exp (((10 : ℝ) : EReal) - ((20 : ℝ) : EReal) * (c : EReal))) = ((gate c : ℝ) : EReal) := by
  rw [← EReal.coe_mul, ← EReal.coe_sub, Ideal.exp_coe, ← EReal.coe_add, Coe.div_coe]
  · rfl
  · positivity

variable {x0 x1 : Vec Ideal S4x256 .f32} {X Y : Fin 4 → Row}

/-- The weight of all pairs of step `i`. -/
abbrev pairs (X Y : Fin 4 → Row) (i : Fin 4) : ℝ := total (weights X i) * total (weights Y i)

theorem weights_pos (X : Fin 4 → Row) (i : Fin 4) (a : Fin 256) : 0 < weights X i a := Real.exp_pos _

theorem pairs_pos (X Y : Fin 4 → Row) (i : Fin 4) : 0 < pairs X Y i :=
  mul_pos (total_pos (weights_pos X i)) (total_pos (weights_pos Y i))

/-- The reciprocal of the weight of all pairs. -/
theorem recip (hX : Holds x0 X) (hY : Holds x1 Y) (i : Fin 4) :
    k0_pay90 (k0_pay111 x0 x1) (ix2 i 0) = ((1 / pairs X Y i : ℝ) : EReal) := by
  rw [← Coe.div_coe _ (pairs_pos X Y i).ne', ← both_total hX hY]
  pointwise [k0_pay90]
  rfl

/-- The digits of a step into which no carry comes, and what a carry changes. -/
theorem plain_rows (hX : Holds x0 X) (hY : Holds x1 Y) :
    Holds (k0_pay178 x0 x1) fun i k => conv (weights X i) (weights Y i) k * (1 / pairs X Y i) := by
  intro i k
  pointwise [k0_pay178, k0_pay91, u0_rows hX hY i, recip hX hY]
  exact (EReal.coe_mul _ _).symm

theorem diff_rows (hX : Holds x0 X) (hY : Holds x1 Y) :
    Holds (k0_pay179 x0 x1) fun i k =>
      (conv (weights X i) (weights Y i) (k - 1) - conv (weights X i) (weights Y i) k) * (1 / pairs X Y i) := by
  intro i k
  pointwise [k0_pay179, k0_pay92, u0_rows hX hY i, u1_rows hX hY i, recip hX hY]
  rw [← EReal.coe_sub, ← EReal.coe_mul]

/-- The weight of the pairs that carry. -/
theorem over_total (hX : Holds x0 X) (hY : Holds x1 Y) (i : Fin 4) :
    k0_pay89 (k0_pay107 x0 x1) (k0_pay108 x0 x1) (k0_pay109 x0 x1) (k0_pay110 x0 x1) (k0_pay176 x0 x1) (ix2 i 0)
      = ((over (weights X i) (weights Y i) : ℝ) : EReal) := by
  rw [← over_of_moments]
  pointwise [k0_pay89, fst_total hX, snd_total hY, fst_moment hX, snd_moment hY, low_total hX hY, Coe.bits_256th]
  simp only [← EReal.coe_mul, ← EReal.coe_add, ← EReal.coe_sub]

/-- The carry out of a step into which no carry comes, and what a carry changes. -/
theorem plain_carry (hX : Holds x0 X) (hY : Holds x1 Y) (i : Fin 4) :
    k0_pay180 x0 x1 (ix2 i 0) = ((over (weights X i) (weights Y i) * (1 / pairs X Y i) : ℝ) : EReal) := by
  have e : k0_pay180 x0 x1 = mulf (k0_pay89 (k0_pay107 x0 x1) (k0_pay108 x0 x1) (k0_pay109 x0 x1) (k0_pay110 x0 x1) (k0_pay176 x0 x1)) (k0_pay90 (k0_pay111 x0 x1)) := rfl
  rw [e, ValueIdx.mulf_apply, over_total hX hY, recip hX hY]
  exact (EReal.coe_mul _ _).symm

theorem diff_carry (hX : Holds x0 X) (hY : Holds x1 Y) (i : Fin 4) :
    k0_pay181 x0 x1 (ix2 i 0) = ((edge (weights X i) (weights Y i) * (1 / pairs X Y i) : ℝ) : EReal) := by
  have e : k0_pay181 x0 x1 = mulf (subf (addf
      (k0_pay89 (k0_pay107 x0 x1) (k0_pay108 x0 x1) (k0_pay109 x0 x1) (k0_pay110 x0 x1) (k0_pay176 x0 x1))
      (shapeCast S4x1 (multiReduction (F := Ideal) .add [1] S4 (mulf (k0_pay177 x0 x1) (k0_pay106 x0 x1)) 0x00000000#32 reduces_S4x256_S4 (.inl rfl) rfl) shapeCasts_S4_S4x1))
      (k0_pay89 (k0_pay107 x0 x1) (k0_pay108 x0 x1) (k0_pay109 x0 x1) (k0_pay110 x0 x1) (k0_pay176 x0 x1))) (k0_pay90 (k0_pay111 x0 x1)) := rfl
  rw [e, ValueIdx.mulf_apply, ValueIdx.subf_apply, ValueIdx.addf_apply, over_total hX hY, edge_total hX hY, recip hX hY]
  show ((_ : EReal) + _ - _) * _ = _
  rw [← EReal.coe_add, ← EReal.coe_sub, ← EReal.coe_mul, add_sub_cancel_left]

/-- A step's carry out, of its two parts. -/
theorem carry_coe (X Y : Fin 4 → Row) (i : Fin 4) (c : ℝ) :
    ((over (weights X i) (weights Y i) * (1 / pairs X Y i) : ℝ) : EReal) + ((gate c : ℝ) : EReal) * ((edge (weights X i) (weights Y i) * (1 / pairs X Y i) : ℝ) : EReal)
      = ((carry (weights X i) (weights Y i) c : ℝ) : EReal) := by
  rw [← EReal.coe_mul, ← EReal.coe_add]
  congr 1
  unfold carry
  ring

/-- A step's digits, of their two parts. -/
theorem digit_coe (X Y : Fin 4 → Row) (i : Fin 4) (c : ℝ) (k : Fin 256) :
    ((conv (weights X i) (weights Y i) k * (1 / pairs X Y i) : ℝ) : EReal)
        + ((gate c : ℝ) : EReal) * (((conv (weights X i) (weights Y i) (k - 1) - conv (weights X i) (weights Y i) k) * (1 / pairs X Y i) : ℝ) : EReal)
      = ((digit (weights X i) (weights Y i) c k : ℝ) : EReal) := by
  rw [← EReal.coe_mul, ← EReal.coe_add]
  congr 1
  unfold digit
  ring

/-- The gate of the first step, into which no carry comes. -/
theorem gate0 : k0_pay95 (F := Ideal) (ix2 0 0) = ((gate 0 : ℝ) : EReal) := by
  rw [← gate_coe]
  pointwise [k0_pay95, Coe.bits_ten, Coe.bits_twenty, Coe.bits_one]
  rfl

/-- The gates of the steps after it. -/
theorem gate1 (hX : Holds x0 X) (hY : Holds x1 Y) :
    k0_pay99 (k0_pay182 x0 x1) (k0_pay183 x0 x1) (ix2 0 0) = ((gate (carryAt X Y 1) : ℝ) : EReal) := by
  have e : k0_pay182 x0 x1 = exp (subf (broadcast S1x1 (Scalar.ofBits (F := Ideal) .f32 0x41200000#32)) (mulf (broadcast S1x1 (Scalar.ofBits .f32 0x41A00000#32))
     (addf (extractStridedSlice S1x1 ![0, 0] (k0_pay180 x0 x1) slices_S4x1_o0_0_S1x1) (mulf k0_pay95 (extractStridedSlice S1x1 ![0, 0] (k0_pay181 x0 x1) slices_S4x1_o0_0_S1x1))))) := rfl
  rw [← gate_coe]
  pointwise [k0_pay99, e, k0_pay183, k0_pay98, plain_carry hX hY, diff_carry hX hY, gate0, Coe.bits_ten, Coe.bits_twenty, Coe.bits_one]
  rw [carry_coe]
  rfl

theorem gate2 (hX : Holds x0 X) (hY : Holds x1 Y) :
    k0_pay101 (k0_pay180 x0 x1) (k0_pay181 x0 x1) (k0_pay182 x0 x1) (k0_pay183 x0 x1) (ix2 0 0) = ((gate (carryAt X Y 2) : ℝ) : EReal) := by
  rw [← gate_coe]
  pointwise [k0_pay101, plain_carry hX hY, diff_carry hX hY, gate1 hX hY, Coe.bits_ten, Coe.bits_twenty, Coe.bits_one]
  rw [carry_coe]
  rfl

/-- The four rows the kernel writes. -/
theorem row0 (hX : Holds x0 X) (hY : Holds x1 Y) (k : Fin 256) :
    k0_pay96 (k0_pay111 x0 x1) (k0_pay174 x0 x1) (k0_pay175 x0 x1) (ix2 0 k) = ((result X Y 0 k : ℝ) : EReal) := by
  have e1 : k0_pay91 (k0_pay111 x0 x1) (k0_pay174 x0 x1) = k0_pay178 x0 x1 := rfl
  have e2 : k0_pay92 (k0_pay111 x0 x1) (k0_pay174 x0 x1) (k0_pay175 x0 x1) = k0_pay179 x0 x1 := rfl
  pointwise [k0_pay96, e1, e2, plain_rows hX hY 0, diff_rows hX hY 0, gate0]
  exact digit_coe X Y 0 0 k

theorem row1 (hX : Holds x0 X) (hY : Holds x1 Y) (k : Fin 256) :
    k0_pay100 (k0_pay178 x0 x1) (k0_pay179 x0 x1) (k0_pay182 x0 x1) (k0_pay183 x0 x1) (ix2 0 k) = ((result X Y 1 k : ℝ) : EReal) := by
  pointwise [k0_pay100, plain_rows hX hY 1, diff_rows hX hY 1, gate1 hX hY]
  exact digit_coe X Y 1 _ k

theorem row2 (hX : Holds x0 X) (hY : Holds x1 Y) (k : Fin 256) :
    k0_pay102 (k0_pay178 x0 x1) (k0_pay179 x0 x1) (k0_pay180 x0 x1) (k0_pay181 x0 x1) (k0_pay182 x0 x1) (k0_pay183 x0 x1) (ix2 0 k) = ((result X Y 2 k : ℝ) : EReal) := by
  pointwise [k0_pay102, plain_rows hX hY 2, diff_rows hX hY 2, gate2 hX hY]
  exact digit_coe X Y 2 _ k

theorem row3 (hX : Holds x0 X) (hY : Holds x1 Y) (k : Fin 256) :
    k0_pay1 (k0_pay103 (k0_pay178 x0 x1)) (k0_pay104 (k0_pay179 x0 x1) (k0_pay180 x0 x1) (k0_pay181 x0 x1) (k0_pay182 x0 x1) (k0_pay183 x0 x1)) (ix2 0 k)
      = ((result X Y 3 k : ℝ) : EReal) := by
  pointwise [k0_pay1, k0_pay103, k0_pay104, plain_rows hX hY 3, diff_rows hX hY 3, plain_carry hX hY, diff_carry hX hY, gate2 hX hY, Coe.bits_ten, Coe.bits_twenty, Coe.bits_one]
  rw [carry_coe, gate_coe]
  exact digit_coe X Y 3 _ k

/-- A written row, read at an index of the row. -/
theorem at_row {f : S1x256.Idx → EReal} {n : Fin 4} (hf : ∀ k : Fin 256, f (ix2 0 k) = ((result X Y n k : ℝ) : EReal))
    (x : S1x256.Idx) {i : Fin 4} {k : Fin 256} (hi : i.val = n.val) (hk : k.val = (x 1).val) :
    f x = ((result X Y i k : ℝ) : EReal) := by
  obtain rfl : i = n := Fin.ext hi
  have hx : x = ix2 0 k := by
    funext a
    match a with
    | ⟨0, _⟩ => exact Fin.ext (by have : (x 0).val < 1 := (x 0).isLt; show (x 0).val = 0; omega)
    | ⟨1, _⟩ => exact Fin.ext hk.symm
  rw [hx, hf]

/-- The array the kernel writes: four digit rows. -/
theorem array_eq (hX : Holds x0 X) (hY : Holds x1 Y) : Holds (Cert.KernelIdeal.Value.G2 x0 x1) (result X Y) := by
  intro i k
  unfold Cert.KernelIdeal.Value.G2
  canon_tiles x h
  · exact at_row (row3 hX hY) x (by show _ = 3; rw [show i.val = _ from h0]; omega) h1
  · exact at_row (row2 hX hY) x (by show _ = 2; rw [show i.val = _ from h0]; omega) h1
  · exact at_row (row1 hX hY) x (by show _ = 1; rw [show i.val = _ from h0]; omega) h1
  · exact at_row (row0 hX hY) x (by show _ = 0; rw [show i.val = _ from h0]; omega) h1

end Cert.Kern
-- ==== Proof.Tables.lean ====
/- What the precondition says: finite embeddings, and the three one-hot tables. -/
module

public import proofs.«01_k».proof.Pre_tables
public import proofs.«01_k».proof.Proof.Gen.Pre_tables
public import proofs.«01_k».proof.Proof.Spec
public import proofs.«01_k».proof.Proof.Coe
public import proofs.«01_k».proof.Proof.Words
public import Idealize.ShloMosaic.Lib.Routing.Words

@[expose] public section

set_option maxRecDepth 16384

noncomputable section

namespace Cert.Tables

open Cert.Pre_tables Idealize.ShloMosaic Cert.Spec

variable {x y : FVec Ideal S4x256 .f32} {w1 : FVec Ideal S514x131072 .f32} {ws : FVec Ideal S131072x256 .f32} {wc : FVec Ideal S131072x2 .f32}

/-- An extended real whose absolute value is below infinity is a real number. -/
theorem real_of_abs {z : Ideal .f32} (h : BitVec.ofBool (decide (FloatOps.absf z < Ideal.ofBits .f32 0x7F800000#32)) = 1#1) :
    ∃ r : ℝ, z = (r : EReal) := by
  have h' : max z (-z) < (⊤ : EReal) := by
    have := of_decide_eq_true ((WordArith.ofBool_eq_numeral_one_iff _).1 h)
    rwa [Coe.bits_top] at this
  induction z using EReal.rec with
  | bot => simp at h'
  | top => simp at h'
  | coe r => exact ⟨r, rfl⟩

/-- The embeddings are finite. -/
theorem fst_finite (h : ∀ j, (fn x y w1 ws wc).1 j = 1#1) (i : Fin 4) (k : Fin 256) : ∃ r : ℝ, x (ix2 i k) = (r : EReal) := by
  have h := h (ix2 i k)
  pointwise [fn, fn_part1, fn_part2, fn_part3] at h
  exact real_of_abs h

theorem snd_finite (h : ∀ j, (fn x y w1 ws wc).2.1 j = 1#1) (i : Fin 4) (k : Fin 256) : ∃ r : ℝ, y (ix2 i k) = (r : EReal) := by
  have h := h (ix2 i k)
  pointwise [fn, fn_part1, fn_part2, fn_part3] at h
  exact real_of_abs h

/-- The digits of a table's row number. -/
theorem entry_high (a b : Fin 256) (c : Fin 2) :
    IntOp.divsi .host (BitVec.ofNat 32 (entry a b c).val) 512#32 = BitVec.ofNat 32 a.val := by
  rw [Routing.divsi_word .host (by unfold entry; simp only; omega) (by omega) (by omega)]
  congr 1; unfold entry; simp only; omega

theorem entry_middle (a b : Fin 256) (c : Fin 2) :
    IntOp.divsi .host (IntOp.remsi .host (BitVec.ofNat 32 (entry a b c).val) 512#32) 2#32 = BitVec.ofNat 32 b.val := by
  rw [Routing.remsi_word .host (by unfold entry; simp only; omega) (by omega) (by omega),
    Routing.divsi_word .host (by unfold entry; simp only; omega) (by omega) (by omega)]
  congr 1; unfold entry; simp only; omega

theorem entry_low (a b : Fin 256) (c : Fin 2) :
    IntOp.remsi .host (BitVec.ofNat 32 (entry a b c).val) 2#32 = BitVec.ofNat 32 c.val := by
  rw [Routing.remsi_word .host (by unfold entry; simp only; omega) (by omega) (by omega)]
  congr 1; unfold entry; simp only; omega

/-- A condition of two bits. -/
theorem or_bit (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

theorem selects (h : ∀ j, (fn x y w1 ws wc).2.2.1 j = 1#1) (j : Fin 514) (a b : Fin 256) (c : Fin 2) :
    w1 (ix2 j (entry a b c)) = ((if (j.val = a.val ∨ j.val = 256 + b.val) ∨ j.val = 512 + c.val then 1 else 0 : ℝ) : EReal) := by
  have h := h (ix2 j (entry a b c))
  pointwise [fn, fn_part1, fn_part2, fn_part3, fn_where_0, id_eq, entry_high, entry_middle, entry_low] at h
  have h := of_decide_eq_true ((WordArith.ofBool_eq_numeral_one_iff _).1 h)
  rw [Words.add_word, Words.add_word, Words.eq_word (by omega) (by omega), Words.eq_word (by omega) (by omega),
    Words.eq_word (by omega) (by omega), or_bit, or_bit, Words.select_bit] at h
  rw [h]
  split <;> rfl

theorem sums (h : ∀ j, (fn x y w1 ws wc).2.2.2.1 j = 1#1) (k : Fin 256) (a b : Fin 256) (c : Fin 2) :
    ws (ix2 (entry a b c) k) = ((if (a.val + b.val + c.val) % 256 = k.val then 1 else 0 : ℝ) : EReal) := by
  have h := h (ix2 (entry a b c) k)
  pointwise [fn, fn_part1, fn_part2, fn_part3, fn_where_1, id_eq, entry_high, entry_middle, entry_low] at h
  have h := of_decide_eq_true ((WordArith.ofBool_eq_numeral_one_iff _).1 h)
  rw [Words.add_word, Words.add_word, Words.and_byte, Words.eq_word (by omega) (by omega), Words.select_bit] at h
  rw [h]
  by_cases hk : (a.val + b.val + c.val) % 256 = k.val
  · rw [if_pos hk, if_pos hk.symm]; rfl
  · rw [if_neg hk, if_neg (Ne.symm hk)]; rfl

theorem carries (h : ∀ j, (fn x y w1 ws wc).2.2.2.2 j = 1#1) (k : Fin 2) (a b : Fin 256) (c : Fin 2) :
    wc (ix2 (entry a b c) k) = ((if k.val = (if 256 ≤ a.val + b.val + c.val then 1 else 0) then 1 else 0 : ℝ) : EReal) := by
  have h := h (ix2 (entry a b c) k)
  pointwise [fn, fn_part1, fn_part2, fn_part3, fn_where_2, fn_where, id_eq, entry_high, entry_middle, entry_low] at h
  have h := of_decide_eq_true ((WordArith.ofBool_eq_numeral_one_iff _).1 h)
  rw [Words.add_word, Words.add_word, Words.ge_word (by omega) (by omega), Words.select_bit] at h
  rw [h]
  split
  · rw [Words.eq_word (by omega) (by omega), Words.select_bit]; split <;> rfl
  · rw [Words.eq_word (by omega) (by omega), Words.select_bit]; split <;> rfl

end Cert.Tables
-- ==== Proof.Softmax.lean ====
/- The reference's softmax over its table of 131072 entries, on real scores. -/
module

public import proofs.«01_k».proof.Proof.Gen.ReferenceIdeal.Run
public import proofs.«01_k».proof.Proof.Spec
public import proofs.«01_k».proof.Proof.Coe
public import Idealize.ShloMosaic.Lib.Pointwise

@[expose] public section

set_option maxRecDepth 16384

noncomputable section

namespace Cert.Refr

open Cert.ReferenceIdeal Cert.ReferenceIdeal.Gen Idealize.ShloMosaic Cert.Spec

/-- The maximum of real numbers, taken from a real number on, is a real number. -/
theorem foldl_max_coe {ι : Type} (f : ι → ℝ) (l : List ι) (r : ℝ) :
    ∃ M : ℝ, l.foldl (fun (r : EReal) n => max r ((f n : ℝ) : EReal)) (r : EReal) = (M : EReal) := by
  induction l generalizing r with
  | nil => exact ⟨r, rfl⟩
  | cons a l ih =>
    obtain ⟨M, hM⟩ := ih (max r (f a))
    refine ⟨M, ?_⟩
    rw [List.foldl_cons, ← hM, EReal.coe_strictMono.monotone.map_max]

/-- The reduction to one number by the maximum, from minus infinity, of an array of real numbers is a real number. -/
theorem reduce_max_real {s t u : Shape} {axes : List (Fin s.rank)} (x : FVec Ideal s .f32) (init : FVec Ideal u .f32)
    (h : s.ReducesTo axes t) (hu : 0 < u.numel) (hx : ∀ i, ∃ r : ℝ, x i = (r : EReal)) (hi : ∀ i, init i = (⊥ : EReal))
    (j : t.Idx) (hj : ∀ i, h.drop i = j) (hs : 0 < s.numel) :
    ∃ M : ℝ, Host.reduce FloatOps.maximumf x init h hu j = (M : EReal) := by
  choose f hf using hx
  have hne : ((List.finRange s.numel).filter fun n => h.drop (s.rowMajor.symm n) = j) ≠ [] :=
    List.ne_nil_of_mem (List.mem_filter.2 ⟨List.mem_finRange ⟨0, hs⟩, decide_eq_true (hj _)⟩)
  unfold Host.reduce
  rw [hi]
  generalize ((List.finRange s.numel).filter fun n => h.drop (s.rowMajor.symm n) = j) = l at hne ⊢
  obtain ⟨a, l, rfl⟩ := List.exists_cons_of_ne_nil hne
  obtain ⟨M, hM⟩ := foldl_max_coe (fun n => f (s.rowMajor.symm n)) l (f (s.rowMajor.symm a))
  refine ⟨M, ?_⟩
  rw [List.foldl_cons, ← hM]
  simp only [hf]
  congr 1

/-- The exponentials of the scores `z` less the number `m`. -/
def expOff (z : FVec Ideal S131072 .f32) (m : FVec Ideal S_ .f32) : FVec Ideal S131072 .f32 :=
  Host.exp (subf z (broadcastInDim S131072 ![0] bcast_S1_S131072_0 (broadcastInDim S1 ![] bcast_S_S1 (maximumf (constant S_ .f32 0xFF800000#32) m))))

/-- The largest score. -/
def top (z : FVec Ideal S131072 .f32) : FVec Ideal S_ .f32 :=
  Host.reduce FloatOps.maximumf z (constant S_ .f32 0xFF800000#32) reducesTo_S131072_S_d0 h_S_

/-- Weights divided by their sum. -/
def norm (e : FVec Ideal S131072 .f32) : FVec Ideal S131072 .f32 :=
  Host.divf e (broadcastInDim S131072 ![0] bcast_S1_S131072_0 (broadcastInDim S1 ![] bcast_S_S1 (Host.reduceAdd e (constant S_ .f32 0x00000000#32) reducesTo_S131072_S_d0 h_S_)))

/-- The largest score is a real number. -/
theorem top_real {z : FVec Ideal S131072 .f32} {Z : Fin 131072 → ℝ} (hz : ∀ n, z (ix1 n) = ((Z n : ℝ) : EReal)) (j : S_.Idx) :
    ∃ M : ℝ, top z j = (M : EReal) := by
  refine reduce_max_real z _ _ _ (fun i => ?_) (fun _ => Coe.bits_bot) j
    (fun _ => funext fun a => a.elim0) (Fin.pos (S131072.rowMajor (ix1 ⟨0, by omega⟩)))
  idx_vars i
  exact ⟨_, hz _⟩

/-- The exponentials of the scores less a real number. -/
theorem expOff_apply {z : FVec Ideal S131072 .f32} {m : FVec Ideal S_ .f32} {Z : Fin 131072 → ℝ} {M : ℝ}
    (hz : ∀ n, z (ix1 n) = ((Z n : ℝ) : EReal)) (hm : m ix0 = (M : EReal)) (n : Fin 131072) :
    expOff z m (ix1 n) = ((Real.exp (Z n - M) : ℝ) : EReal) := by
  pointwise [expOff, hz, hm, Coe.bits_bot]
  rw [max_eq_right bot_le, ← EReal.coe_sub, Ideal.exp_coe]

/-- The softmax's weights: what is taken off the scores cancels. -/
theorem soft_apply {z : FVec Ideal S131072 .f32} {m : FVec Ideal S_ .f32} {Z : Fin 131072 → ℝ} {M : ℝ}
    (hz : ∀ n, z (ix1 n) = ((Z n : ℝ) : EReal)) (hm : m ix0 = (M : EReal)) (n : Fin 131072) :
    norm (expOff z m) (ix1 n) = ((Real.exp (Z n) / ∑ m, Real.exp (Z m) : ℝ) : EReal) := by
  have he := expOff_apply hz hm
  generalize expOff z m = e at he
  pointwise [norm, he]
  have hpos : 0 < ∑ m, Real.exp (Z m - M) := Finset.sum_pos (fun _ _ => Real.exp_pos _) ⟨⟨0, by omega⟩, Finset.mem_univ _⟩
  rw [Coe.sum_coe, Coe.div_coe _ hpos.ne']
  congr 1
  simp only [Real.exp_sub, ← Finset.sum_div]
  exact div_div_div_cancel_right₀ (Real.exp_pos M).ne' _ _

end Cert.Refr
-- ==== Proof.RefStep.lean ====
/- What one step of the reference computes: its scores, its digit row and its carry. -/
module

public import proofs.«01_k».proof.Proof.Softmax

@[expose] public section

set_option maxRecDepth 16384

noncomputable section

namespace Cert.Refr

open Cert.ReferenceIdeal Cert.ReferenceIdeal.Gen Idealize.ShloMosaic Cert.Spec

/-- The three tables, an entry `(a, b, c)` at a time. -/
structure Tables (w1 : FVec Ideal S514x131072 .f32) (ws : FVec Ideal S131072x256 .f32) (wc : FVec Ideal S131072x2 .f32) : Prop where
  selects : ∀ (j : Fin 514) (a b : Fin 256) (c : Fin 2), w1 (ix2 j (entry a b c))
    = ((if (j.val = a.val ∨ j.val = 256 + b.val) ∨ j.val = 512 + c.val then 1 else 0 : ℝ) : EReal)
  sums : ∀ (k a b : Fin 256) (c : Fin 2), ws (ix2 (entry a b c) k)
    = ((if (a.val + b.val + c.val) % 256 = k.val then 1 else 0 : ℝ) : EReal)
  carries : ∀ (k : Fin 2) (a b : Fin 256) (c : Fin 2), wc (ix2 (entry a b c) k)
    = ((if k.val = (if 256 ≤ a.val + b.val + c.val then 1 else 0) then 1 else 0 : ℝ) : EReal)

/-- Every row of the tables is an entry. -/
theorem entry_surj (n : Fin 131072) : ∃ (a b : Fin 256) (c : Fin 2), n = entry a b c :=
  ⟨⟨n.val / 512, by omega⟩, ⟨n.val % 512 / 2, by omega⟩, ⟨n.val % 2, by omega⟩, Fin.ext (by unfold entry; simp only; omega)⟩

/-! ### The scores -/

/-- The scores less 2.5, times 10. -/
def logits (p q : FVec Ideal S256 .f32) (r : FVec Ideal S2 .f32) (w1 : FVec Ideal S514x131072 .f32) : FVec Ideal S131072 .f32 :=
  mulf (subf (Host.dotGeneral dot_S514_S514x131072_S131072_0_0_n_1_n_n none
    (concatenate S514 0 [⟨S256, p⟩, ⟨S256, q⟩, ⟨S2, r⟩] concatenates_S256_S256_S2_S514_d0) w1)
      (broadcastInDim S131072 ![] bcast_S_S131072 (constant S_ .f32 0x40200000#32))) (broadcastInDim S131072 ![] bcast_S_S131072 (constant S_ .f32 0x41200000#32))

/-- Two rows of real numbers and a pair, one after another. -/
def joined (A B : Row) (C : Fin 2 → ℝ) (j : Fin 514) : ℝ :=
  if h : j.val < 256 then A ⟨j.val, h⟩ else if h : j.val - 256 < 256 then B ⟨j.val - 256, h⟩ else C ⟨j.val - 256 - 256, by omega⟩

/-- A one-hot column of the first table picks one number of each part. -/
theorem joined_sum (A B : Row) (C : Fin 2 → ℝ) (a b : Fin 256) (c : Fin 2) :
    ∑ j : Fin 514, joined A B C j * (if (j.val = a.val ∨ j.val = 256 + b.val) ∨ j.val = 512 + c.val then 1 else 0) = A a + B b + C c := by
  have e : ∀ j : Fin 514, joined A B C j * (if (j.val = a.val ∨ j.val = 256 + b.val) ∨ j.val = 512 + c.val then 1 else 0)
      = (if (⟨a.val, by omega⟩ : Fin 514) = j then joined A B C j else 0) + (if (⟨256 + b.val, by omega⟩ : Fin 514) = j then joined A B C j else 0)
        + (if (⟨512 + c.val, by omega⟩ : Fin 514) = j then joined A B C j else 0) := by
    intro j
    simp only [Fin.ext_iff]
    by_cases h1 : j.val = a.val
    · rw [if_pos (.inl (.inl h1)), if_pos h1.symm, if_neg (by omega), if_neg (by omega)]; ring
    by_cases h2 : j.val = 256 + b.val
    · rw [if_pos (.inl (.inr h2)), if_neg (by omega), if_pos h2.symm, if_neg (by omega)]; ring
    by_cases h3 : j.val = 512 + c.val
    · rw [if_pos (.inr h3), if_neg (by omega), if_neg (by omega), if_pos h3.symm]; ring
    · rw [if_neg (by omega), if_neg (by omega), if_neg (by omega), if_neg (by omega)]; ring
  simp only [e, Finset.sum_add_distrib, Finset.sum_ite_eq, Finset.mem_univ, if_true]
  congr 1
  · congr 1
    · unfold joined; rw [dif_pos a.isLt]
    · unfold joined; rw [dif_neg (by simp only; omega), dif_pos (by simp only; omega)]
      congr 1; exact Fin.ext (by simp only; omega)
  · unfold joined; rw [dif_neg (by simp only; omega), dif_neg (by simp only; omega)]
    congr 1; exact Fin.ext (by simp only; omega)

/-- The score of a triple. -/
theorem logits_apply {p q : FVec Ideal S256 .f32} {r : FVec Ideal S2 .f32} {w1 : FVec Ideal S514x131072 .f32} {ws wc}
    (ht : Tables w1 ws wc) {A B : Row} {C : Fin 2 → ℝ}
    (hp : ∀ k, p (ix1 k) = ((A k : ℝ) : EReal)) (hq : ∀ k, q (ix1 k) = ((B k : ℝ) : EReal)) (hr : ∀ k, r (ix1 k) = ((C k : ℝ) : EReal))
    (a b : Fin 256) (c : Fin 2) :
    logits p q r w1 (ix1 (entry a b c)) = (((A a + B b + C c - 5 / 2) * 10 : ℝ) : EReal) := by
  pointwise [logits, hp, hq, hr, ht.selects, Coe.bits_half, Coe.bits_ten]
  rw [← joined_sum, EReal.coe_mul, EReal.coe_sub, ← Coe.sum_coe]
  congr 2

/-! ### The weights -/

/-- The part of a triple's weight that all triples share. -/
theorem exp_logit (A B : Row) (C : Fin 2 → ℝ) (a b : Fin 256) (c : Fin 2) :
    Real.exp ((A a + B b + C c - 5 / 2) * 10) = Real.exp (-25) * (expRow A a * expRow B b * Real.exp (10 * C c)) := by
  unfold expRow
  rw [← Real.exp_add, ← Real.exp_add, ← Real.exp_add]
  congr 1
  ring

/-- A step's weights. -/
def soft (p q : FVec Ideal S256 .f32) (r : FVec Ideal S2 .f32) (w1 : FVec Ideal S514x131072 .f32) : FVec Ideal S131072 .f32 :=
  norm (expOff (logits p q r w1) (top (logits p q r w1)))

/-- The weight of all triples. -/
def mass (A B : Row) (C : Fin 2 → ℝ) : ℝ :=
  total (expRow A) * total (expRow B) * (Real.exp (10 * C 0) + Real.exp (10 * C 1))

theorem expRow_pos (A : Row) (a : Fin 256) : 0 < expRow A a := Real.exp_pos _

theorem mass_pos (A B : Row) (C : Fin 2 → ℝ) : 0 < mass A B C :=
  mul_pos (mul_pos (total_pos (expRow_pos A)) (total_pos (expRow_pos B))) (add_pos (Real.exp_pos _) (Real.exp_pos _))

/-- The weight of a triple. -/
theorem weight_apply {p q : FVec Ideal S256 .f32} {r : FVec Ideal S2 .f32} {w1 : FVec Ideal S514x131072 .f32} {ws wc}
    (ht : Tables w1 ws wc) {A B : Row} {C : Fin 2 → ℝ}
    (hp : ∀ k, p (ix1 k) = ((A k : ℝ) : EReal)) (hq : ∀ k, q (ix1 k) = ((B k : ℝ) : EReal)) (hr : ∀ k, r (ix1 k) = ((C k : ℝ) : EReal))
    (a b : Fin 256) (c : Fin 2) :
    soft p q r w1 (ix1 (entry a b c)) = ((expRow A a * expRow B b * Real.exp (10 * C c) / mass A B C : ℝ) : EReal) := by
  have hl := logits_apply ht hp hq hr
  unfold soft
  generalize logits p q r w1 = z at hl
  have hz : ∀ n, ∃ Z : ℝ, z (ix1 n) = (Z : EReal) := by
    intro n
    obtain ⟨a, b, c, rfl⟩ := entry_surj n
    exact ⟨_, hl a b c⟩
  choose Z hz using hz
  obtain ⟨M, hM⟩ := top_real hz ix0
  rw [soft_apply hz hM]
  have hZ : ∀ a b c, Z (entry a b c) = (A a + B b + C c - 5 / 2) * 10 := fun a b c =>
    EReal.coe_injective ((hz _).symm.trans (hl a b c))
  refine congrArg Real.toEReal ?_
  rw [sum_entries]
  have all : ∑ a : Fin 256, ∑ b : Fin 256, ∑ c : Fin 2, Real.exp (-25) * (expRow A a * expRow B b * Real.exp (10 * C c))
      = Real.exp (-25) * mass A B C := by
    unfold mass
    rw [← sum_all (expRow A) (expRow B) (fun k => Real.exp (10 * C k))]
    simp only [Finset.mul_sum]
  simp only [hZ, exp_logit]
  rw [all, mul_div_mul_left _ _ (Real.exp_pos _).ne']

/-! ### The results -/

/-- The weights' sum over a table's column. -/
theorem column_sum {w : FVec Ideal S131072 .f32} {A B : Row} {C : Fin 2 → ℝ}
    (hw : ∀ a b c, w (ix1 (entry a b c)) = ((expRow A a * expRow B b * Real.exp (10 * C c) / mass A B C : ℝ) : EReal))
    {t : Fin 131072 → EReal} {T : Fin 256 → Fin 256 → Fin 2 → ℝ} (ht : ∀ a b c, t (entry a b c) = ((T a b c : ℝ) : EReal)) :
    ∑ n, w (ix1 n) * t n
      = (((∑ a : Fin 256, ∑ b : Fin 256, ∑ c : Fin 2, expRow A a * expRow B b * Real.exp (10 * C c) * T a b c) / mass A B C : ℝ) : EReal) := by
  rw [sum_entries]
  simp only [hw, ht, ← EReal.coe_mul, Coe.sum_coe, Finset.sum_div]
  refine congrArg Real.toEReal ?_
  refine Finset.sum_congr rfl fun a _ => Finset.sum_congr rfl fun b _ => Finset.sum_congr rfl fun c _ => ?_
  ring

section Results
variable {p q : FVec Ideal S256 .f32} {r : FVec Ideal S2 .f32} {w1 : FVec Ideal S514x131072 .f32} {ws : FVec Ideal S131072x256 .f32}
  {wc : FVec Ideal S131072x2 .f32} {A B : Row} {c : ℝ}

/-- The carry's two numbers. -/
def pair (c : ℝ) (k : Fin 2) : ℝ := if k = 0 then 1 - c else c

theorem mass_eq (A B : Row) (c : ℝ) :
    mass A B (pair c) = total (expRow A) * total (expRow B) * (Real.exp (10 * (1 - c)) + Real.exp (10 * c)) := rfl

/-- A step's digit row. -/
theorem digits_apply (ht : Tables w1 ws wc) (hp : ∀ k, p (ix1 k) = ((A k : ℝ) : EReal)) (hq : ∀ k, q (ix1 k) = ((B k : ℝ) : EReal))
    (hr : ∀ k, r (ix1 k) = ((pair c k : ℝ) : EReal)) (k : Fin 256) :
    Host.dotGeneral dot_S131072_S131072x256_S256_0_0_n_1_n_n none (soft p q r w1) ws (ix1 k) = ((digit (expRow A) (expRow B) c k : ℝ) : EReal) := by
  have hw := weight_apply ht hp hq hr
  generalize soft p q r w1 = w at hw
  pointwise []
  rw [column_sum hw (ht.sums k), sum_digit (expRow A) (expRow B) (fun k => Real.exp (10 * pair c k)), mass_eq, ← digit_eq (expRow_pos A) (expRow_pos B)]
  rfl

/-- A step's carry out. -/
theorem carry_apply (ht : Tables w1 ws wc) (hp : ∀ k, p (ix1 k) = ((A k : ℝ) : EReal)) (hq : ∀ k, q (ix1 k) = ((B k : ℝ) : EReal))
    (hr : ∀ k, r (ix1 k) = ((pair c k : ℝ) : EReal)) (k : Fin 2) :
    Host.dotGeneral dot_S131072_S131072x2_S2_0_0_n_1_n_n none (soft p q r w1) wc (ix1 k) = ((pair (carry (expRow A) (expRow B) c) k : ℝ) : EReal) := by
  have hw := weight_apply ht hp hq hr
  generalize soft p q r w1 = w at hw
  pointwise []
  rw [column_sum hw (ht.carries k)]
  refine congrArg Real.toEReal ?_
  have one := sum_carry (expRow A) (expRow B) (fun k => Real.exp (10 * pair c k))
  have all := sum_all (expRow A) (expRow B) (fun k => Real.exp (10 * pair c k))
  have h1 : (∑ a : Fin 256, ∑ b : Fin 256, ∑ k : Fin 2, expRow A a * expRow B b * Real.exp (10 * pair c k)
      * (if 256 ≤ a.val + b.val + k.val then (1 : ℝ) else 0)) / mass A B (pair c) = carry (expRow A) (expRow B) c := by
    rw [one, mass_eq, ← carry_eq (expRow_pos A) (expRow_pos B)]
    rfl
  match k with
  | 0 =>
    show _ = 1 - carry (expRow A) (expRow B) c
    rw [← h1, eq_sub_iff_add_eq, ← add_div, ← Finset.sum_add_distrib, div_eq_one_iff_eq (mass_pos A B (pair c)).ne']
    refine Eq.trans (Finset.sum_congr rfl fun a _ => ?_) all
    rw [← Finset.sum_add_distrib]
    refine Finset.sum_congr rfl fun b _ => ?_
    rw [← Finset.sum_add_distrib]
    refine Finset.sum_congr rfl fun k _ => ?_
    by_cases h : 256 ≤ a.val + b.val + k.val <;> simp [h]
  | 1 =>
    show _ = carry (expRow A) (expRow B) c
    rw [← h1]
    refine congrArg (· / mass A B (pair c)) ?_
    refine Finset.sum_congr rfl fun a _ => Finset.sum_congr rfl fun b _ => Finset.sum_congr rfl fun k _ => ?_
    by_cases h : 256 ≤ a.val + b.val + k.val <;> simp [h]

end Results

end Cert.Refr
-- ==== Proof.RefRun.lean ====
/- What the reference's result array holds after its four steps. -/
module

public import proofs.«01_k».proof.Proof.RefStep
public import Idealize.ShloMosaic.Lib.DynamicIndex
public import Idealize.ShloMosaic.Lib.Routing.OpsOne

@[expose] public section

set_option maxRecDepth 8192

noncomputable section

namespace Cert.Refr

open Cert.ReferenceIdeal Cert.ReferenceIdeal.Gen Cert.ReferenceIdeal.Value Idealize.ShloMosaic Idealize.SL.Sem Cert.Spec
open Idealize.ShloMosaic.StableHlo

/-! ### A row read and a row written at the counter -/

/-- The two indices at which a step reads and writes: its number and zero. -/
def at_ (n : IVec S_ 32) : Fin 2 → Int :=
  fun k => (((![n, constantI S_ 32 0#32] : Fin 2 → (⟨S_, .i32⟩ : BufTy).Contents (Elt Ideal))) k (Shape.Idx.first h_S_)).toInt

theorem at_eq {n : IVec S_ 32} (i : Fin 4) (hn : n = fun _ => BitVec.ofNat 32 i.val) (a : Fin 2) : at_ n a = ((![i.val, 0] : Fin 2 → Nat) a : Int) := by
  subst hn
  match a with
  | 0 => exact toInt_ofNat_of_lt (by omega)
  | 1 => rfl

/-- A step's row of an array. -/
def rowOf (x : FVec Ideal S4x256 .f32) (n : IVec S_ 32) : FVec Ideal S256 .f32 :=
  shapeCast S256 (Host.dynamicSlice S1x256 x (at_ n) sliceFits_S4x256_S1x256) shapeCasts_S1x256_S256

theorem rowOf_apply (x : FVec Ideal S4x256 .f32) {n : IVec S_ 32} (i : Fin 4) (hn : n = fun _ => BitVec.ofNat 32 i.val) (k : Fin 256) :
    rowOf x n (ix1 k) = x (ix2 i k) := by
  have hoff : S4x256.Slices (![i.val, 0] : Fin 2 → Nat) S1x256 := ⟨rfl, fun a => by
    match a with
    | 0 => show i.val + 1 ≤ 4; omega
    | 1 => show 0 + 256 ≤ 256; omega⟩
  unfold rowOf
  rw [Host.dynamicSlice_eq_extractStridedSlice S1x256 x (at_ n) ![i.val, 0] sliceFits_S4x256_S1x256 hoff (at_eq i hn)]
  pointwise []

/-- The array with a step's row in place. -/
def putRow (x : FVec Ideal S4x256 .f32) (d : FVec Ideal S256 .f32) (n : IVec S_ 32) : FVec Ideal S4x256 .f32 :=
  Host.dynamicUpdateSlice x (broadcastInDim S1x256 ![1] bcast_S256_S1x256_1 d) (at_ n) updateFits_S4x256_S1x256

theorem putRow_apply (x : FVec Ideal S4x256 .f32) (d : FVec Ideal S256 .f32) {n : IVec S_ 32} (i : Fin 4) (hn : n = fun _ => BitVec.ofNat 32 i.val)
    (j : Fin 4) (k : Fin 256) : putRow x d n (ix2 j k) = if j = i then d (ix1 k) else x (ix2 j k) := by
  have h0 := Host.clampedStart_of_le (s := S4x256) (t := S1x256) updateFits_S4x256_S1x256.1 (at_ n) 0 i.val (at_eq i hn 0) (by show i.val + 1 ≤ 4; omega)
  have h1 := Host.clampedStart_of_le (s := S4x256) (t := S1x256) updateFits_S4x256_S1x256.1 (at_ n) 1 0 (at_eq i hn 1) (by show 0 + 256 ≤ 256; omega)
  pointwise [putRow, h0, h1]
  by_cases e : j = i
  · rw [if_pos e, dif_pos (by subst e; omega)]
  · rw [if_neg e, dif_neg (by have := fun q => e (Fin.ext q); omega)]

/-! ### The step -/

/-- A step's weights are the softmax of its scores. -/
theorem v22_eq (V : Valuation τ sig (Elt Ideal)) : res_main_while0b_v22 V
    = soft (rowOf (V (Proc.devRef .tc main_v4_0)) (V (Proc.devRef .tc main_v4_5))) (rowOf (V (Proc.devRef .tc main_v4_1)) (V (Proc.devRef .tc main_v4_5)))
      (V (Proc.devRef .tc main_v4_6)) (V (Proc.devRef .tc main_v4_2)) := by
  have h12 : res_main_while0b_v12 V
    = logits (rowOf (V (Proc.devRef .tc main_v4_0)) (V (Proc.devRef .tc main_v4_5))) (rowOf (V (Proc.devRef .tc main_v4_1)) (V (Proc.devRef .tc main_v4_5)))
      (V (Proc.devRef .tc main_v4_6)) (V (Proc.devRef .tc main_v4_2)) := rfl
  unfold res_main_while0b_v22 res_main_while0b_v18 soft norm expOff top
  rw [h12]

/-- What the reference's buffers hold before step `n`. -/
structure Inv (x0 x1 : FVec Ideal S4x256 .f32) (w1 : FVec Ideal S514x131072 .f32) (ws : FVec Ideal S131072x256 .f32) (wc : FVec Ideal S131072x2 .f32)
    (X Y : Fin 4 → Row) (n : Nat) (V : Valuation τ sig (Elt Ideal)) : Prop where
  arg0 : V (Proc.devRef .tc main_v4_0) = x0
  arg1 : V (Proc.devRef .tc main_v4_1) = x1
  arg2 : V (Proc.devRef .tc main_v4_2) = w1
  arg3 : V (Proc.devRef .tc main_v4_3) = ws
  arg4 : V (Proc.devRef .tc main_v4_4) = wc
  counter : V (Proc.devRef .tc main_v4_5) = fun _ => BitVec.ofNat 32 n
  carried : ∀ k, (V (Proc.devRef .tc main_v4_6) : FVec Ideal S2 .f32) (ix1 k) = ((pair (carryAt X Y n) k : ℝ) : EReal)
  rows : ∀ (i : Fin 4) k, i.val < n → (V (Proc.devRef .tc main_v4_7) : FVec Ideal S4x256 .f32) (ix2 i k) = ((result X Y i k : ℝ) : EReal)

section Steps
variable {x0 x1 : FVec Ideal S4x256 .f32} {w1 : FVec Ideal S514x131072 .f32} {ws : FVec Ideal S131072x256 .f32} {wc : FVec Ideal S131072x2 .f32}
  {X Y : Fin 4 → Row}

/-- A step keeps the invariant. -/
theorem Inv.step (ht : Tables w1 ws wc) (hx : ∀ i k, x0 (ix2 i k) = ((X i k : ℝ) : EReal)) (hy : ∀ i k, x1 (ix2 i k) = ((Y i k : ℝ) : EReal))
    (n : Fin 4) {V : Valuation τ sig (Elt Ideal)} (h : Inv x0 x1 w1 ws wc X Y n.val V) : Inv x0 x1 w1 ws wc X Y (n.val + 1) (STEP V) where
  arg0 := (STEP_main_v4_0 V).trans h.arg0
  arg1 := (STEP_main_v4_1 V).trans h.arg1
  arg2 := (STEP_main_v4_2 V).trans h.arg2
  arg3 := (STEP_main_v4_3 V).trans h.arg3
  arg4 := (STEP_main_v4_4 V).trans h.arg4
  counter := by
    rw [STEP_main_v4_5]
    unfold step_main_v4_5
    rw [h.counter]
    funext j
    show BitVec.ofNat 32 n.val + 1#32 = BitVec.ofNat 32 (n.val + 1)
    exact (BitVec.ofNat_add _ _).symm
  carried := by
    intro k
    rw [STEP_main_v4_6]
    unfold step_main_v4_6
    rw [v22_eq, h.arg0, h.arg1, h.arg2, h.arg4, id_eq]
    refine (carry_apply ht (A := X n) (B := Y n) (c := carryAt X Y n.val) (fun k => (rowOf_apply x0 n h.counter k).trans (hx n k))
      (fun k => (rowOf_apply x1 n h.counter k).trans (hy n k)) h.carried k).trans ?_
    have e : Fin.ofNat 4 n.val = n := Fin.ext (Nat.mod_eq_of_lt n.isLt)
    rw [carryAt, e]
  rows := by
    intro i k hi
    rw [STEP_main_v4_7]
    unfold step_main_v4_7
    rw [v22_eq, h.arg0, h.arg1, h.arg2, h.arg3, id_eq]
    refine (putRow_apply _ _ n h.counter i k).trans ?_
    by_cases e : i = n
    · subst e
      rw [if_pos rfl]
      exact digits_apply ht (A := X i) (B := Y i) (c := carryAt X Y i.val) (fun k => (rowOf_apply x0 i h.counter k).trans (hx i k))
        (fun k => (rowOf_apply x1 i h.counter k).trans (hy i k)) h.carried k
    · rw [if_neg e]
      exact h.rows i k (by have := fun q => e (Fin.ext q); omega)

variable (m : (ℓ : Loc nD τ sig) → Buf (Elt Ideal) ℓ) (c : Dev nD)

/-- Before the first step the carry is `(1, 0)`. -/
theorem carry_first (k : Fin 2) : (entryContents preI m c (Proc.devRef .tc main_v4_6) : FVec Ideal S2 .f32) (ix1 k) = ((pair 0 k : ℝ) : EReal) := by
  have e : entryContents preI m c (Proc.devRef .tc main_v4_6) = Host.scatter scatter_S2_S1_S__n_0_0_0 (fun _ b => b)
      (broadcastInDim S2 ![] bcast_S_S2 (constant (F := Ideal) S_ .f32 0x00000000#32)) (broadcastInDim S1 ![] bcast_S_S1 (constantI S_ 32 0#32))
      (constant (F := Ideal) S_ .f32 0x3F800000#32) := by
    simp only [entryContents, afterL_cons, afterL_nil]
    after_reads_simp
    rfl
  rw [e]
  have land := Routing.lands_one scatter_S2_S1_S__n_0_0_0 rfl rfl (broadcastInDim S1 ![] bcast_S_S1 (constantI S_ 32 0#32)) 0 rfl
  match k with
  | 0 =>
    refine (Routing.scatter_set_hit _ _ _ _ _ (Ideal.ofBits .f32 0x3F800000#32) (fun _ _ => rfl) ValueIdx.ix0 ((land 0).2 rfl)).trans ?_
    rw [Coe.bits_one]
    simp [pair]
  | 1 =>
    refine (Routing.scatter_set_miss _ _ _ _ _ fun j hj => ?_).trans ?_
    · have := (land 1).1 (by rw [← ValueIdx.eq_ix0 j]; exact hj)
      exact absurd this (by decide)
    · show Ideal.ofBits .f32 0x00000000#32 = _
      rw [Coe.bits_zero]
      simp [pair]

/-- The invariant before the first step. -/
theorem Inv.first : Inv (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) X Y 0 (entryContents preI m c) where
  arg0 := by simp only [entryContents, afterL_cons, afterL_nil]; after_reads_simp; rfl
  arg1 := by simp only [entryContents, afterL_cons, afterL_nil]; after_reads_simp; rfl
  arg2 := by simp only [entryContents, afterL_cons, afterL_nil]; after_reads_simp; rfl
  arg3 := by simp only [entryContents, afterL_cons, afterL_nil]; after_reads_simp; rfl
  arg4 := by simp only [entryContents, afterL_cons, afterL_nil]; after_reads_simp; rfl
  counter := ctr_entry m c
  carried := carry_first m c
  rows := fun i k hi => absurd hi (by omega)

/-- What the reference's result holds: the digit rows. -/
theorem array_eq (ht : Tables (m ((c.tc : Thread nD τ).loc main_arg2)) (m ((c.tc : Thread nD τ).loc main_arg3)) (m ((c.tc : Thread nD τ).loc main_arg4)))
    (hx : ∀ i k, (m ((c.tc : Thread nD τ).loc main_arg0) : FVec Ideal S4x256 .f32) (ix2 i k) = ((X i k : ℝ) : EReal))
    (hy : ∀ i k, (m ((c.tc : Thread nD τ).loc main_arg1) : FVec Ideal S4x256 .f32) (ix2 i k) = ((Y i k : ℝ) : EReal)) (i : Fin 4) (k : Fin 256) :
    ((STEP^[4] (entryContents preI m c)) (Proc.devRef .tc main_v4_7) : FVec Ideal S4x256 .f32) (ix2 i k) = ((result X Y i k : ℝ) : EReal) := by
  have h : ∀ n, n ≤ 4 → Inv (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) X Y n (STEP^[n] (entryContents preI m c)) := by
    intro n
    induction n with
    | zero => exact fun _ => Inv.first m c
    | succ n ih =>
      intro hn
      rw [Function.iterate_succ_apply']
      exact Inv.step ht hx hy ⟨n, by omega⟩ (ih (by omega))
  exact (h 4 le_rfl).rows i k i.isLt

end Steps

end Cert.Refr
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_tables
public import proofs.«01_k».proof.Proof.Gen.ReferenceIdeal.Run
public import Idealize.ShloMosaic.Adequacy
public import Idealize.ShloMosaic.Init
public import Idealize.ShloMosaic.Lib.Quiescent
public import proofs.«01_k».proof.Proof.Rows
public import proofs.«01_k».proof.Proof.Tables
public import proofs.«01_k».proof.Proof.RefRun

@[expose] public section

noncomputable section

namespace Cert.Proof

open Idealize.ShloMosaic Idealize.SL.Sem

/-- The reference terminates, its arguments unchanged; it has no counters. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the reference's are the same four digit rows. -/
theorem same_array : algebraic_KernelIdeal_ReferenceIdeal_pre_tables := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4⟩ := hpre c
  obtain ⟨e0, e1, e2, e3, e4⟩ := hagree c
  have fX := Cert.Tables.fst_finite (fun j => congrFun h0 j)
  have fY := Cert.Tables.snd_finite (fun j => congrFun h1 j)
  choose X hX using fX
  choose Y hY using fY
  funext j
  idx_vars j
  refine (Cert.Refr.array_eq m' c (X := X) (Y := Y) ⟨?_, ?_, ?_⟩ ?_ ?_ j0 j1).trans (Cert.Kern.array_eq hX hY j0 j1).symm
  · rw [e2]; exact Cert.Tables.selects (fun j => congrFun h2 j)
  · rw [e3]; exact Cert.Tables.sums (fun j => congrFun h3 j)
  · rw [e4]; exact Cert.Tables.carries (fun j => congrFun h4 j)
  · rw [e0]; exact hX
  · rw [e1]; exact hY

theorem claim : Cert.Claim := ⟨Cert.Kernel.Gen.facts, Cert.KernelIdeal.Gen.facts, Cert.ReferenceIdeal.Gen.facts, Cert.Pre_tables.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, (trivial : preserves_Kernel_KernelIdeal), same_array⟩

end Cert.Proof

end
